-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x8192 : Shape := ⟨3, ![2, 2048, 8192]⟩
abbrev S4096x22528 : Shape := ⟨2, ![4096, 22528]⟩
abbrev S64x22528 : Shape := ⟨2, ![64, 22528]⟩
abbrev S4096x8192 : Shape := ⟨2, ![4096, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x128x1 : Shape := ⟨3, ![128, 128, 1]⟩
abbrev S128x128x2 : Shape := ⟨3, ![128, 128, 2]⟩
abbrev S128x256 : Shape := ⟨2, ![128, 256]⟩
abbrev S256x256 : Shape := ⟨2, ![256, 256]⟩
abbrev S4096x11264 : Shape := ⟨2, ![4096, 11264]⟩
abbrev S1024x8192 : Shape := ⟨2, ![1024, 8192]⟩
abbrev S4096x256 : Shape := ⟨2, ![4096, 256]⟩
abbrev S64x256 : Shape := ⟨2, ![64, 256]⟩
abbrev S1024x256 : Shape := ⟨2, ![1024, 256]⟩
abbrev S32x256 : Shape := ⟨2, ![32, 256]⟩
abbrev S32x1x256 : Shape := ⟨3, ![32, 1, 256]⟩
abbrev S32x2x256 : Shape := ⟨3, ![32, 2, 256]⟩
abbrev S128x1x256 : Shape := ⟨3, ![128, 1, 256]⟩
abbrev S128x2x256 : Shape := ⟨3, ![128, 2, 256]⟩
abbrev S1x2x256 : Shape := ⟨3, ![1, 2, 256]⟩

abbrev nBuf : Space → Nat
  | .hbm => 38
  | .vmem => 14
  | .smem => 0
  | _ => 0

abbrev bufTy : (tb : Table) → Fin (tcTables nBuf tb) → BufTy
  | .hbm, ⟨0, _⟩ => ⟨S2x2048x8192, .bf16⟩
  | .hbm, ⟨1, _⟩ => ⟨S4096x22528, .i8⟩
  | .hbm, ⟨2, _⟩ => ⟨S64x22528, .bf16⟩
  | .hbm, ⟨3, _⟩ => ⟨S4096x8192, .bf16⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i1⟩
  | .hbm, ⟨17, _⟩ => ⟨S_, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128x1, .f32⟩
  | .hbm, ⟨28, _⟩ => ⟨S128x128x1, .f32⟩
  | .hbm, ⟨29, _⟩ => ⟨S128x128x2, .f32⟩
  | .hbm, ⟨30, _⟩ => ⟨S128x256, .f32⟩
  | .hbm, ⟨31, _⟩ => ⟨S128x128x1, .f32⟩
  | .hbm, ⟨32, _⟩ => ⟨S128x128x1, .f32⟩
  | .hbm, ⟨33, _⟩ => ⟨S128x128x2, .f32⟩
  | .hbm, ⟨34, _⟩ => ⟨S128x256, .f32⟩
  | .hbm, ⟨35, _⟩ => ⟨S256x256, .f32⟩
  | .hbm, ⟨36, _⟩ => ⟨S256x256, .bf16⟩
  | .hbm, ⟨37, _⟩ => ⟨S4096x11264, .bf16⟩
  | .local _ .vmem, ⟨0, _⟩ => ⟨S1024x8192, .bf16⟩
  | .local _ .vmem, ⟨1, _⟩ => ⟨S1024x8192, .bf16⟩
  | .local _ .vmem, ⟨2, _⟩ => ⟨S256x256, .bf16⟩
  | .local _ .vmem, ⟨3, _⟩ => ⟨S4096x256, .i8⟩
  | .local _ .vmem, ⟨4, _⟩ => ⟨S4096x256, .i8⟩
  | .local _ .vmem, ⟨5, _⟩ => ⟨S4096x256, .i8⟩
  | .local _ .vmem, ⟨6, _⟩ => ⟨S4096x256, .i8⟩
  | .local _ .vmem, ⟨7, _⟩ => ⟨S64x256, .bf16⟩
  | .local _ .vmem, ⟨8, _⟩ => ⟨S64x256, .bf16⟩
  | .local _ .vmem, ⟨9, _⟩ => ⟨S64x256, .bf16⟩
  | .local _ .vmem, ⟨10, _⟩ => ⟨S64x256, .bf16⟩
  | .local _ .vmem, ⟨11, _⟩ => ⟨S1024x256, .bf16⟩
  | .local _ .vmem, ⟨12, _⟩ => ⟨S1024x256, .bf16⟩
  | .local _ .vmem, ⟨13, _⟩ => ⟨S1024x8192, .bf16⟩
  | _, _ => ⟨S2x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 44], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_407 : BitVec 32 := 0#32
  let c8_i32 : BitVec 32 := 8#32
  let v1328 : BitVec 32 := Scalar.addi c0_i32_407 c8_i32
  let c1_i32 : BitVec 32 := 1#32
  ⟨c0_i32_407, v1328, c1_i32⟩
def k0_mult1 (k0_t1 : Fin k0_t1_loop.trips) : BitVec 32 :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  v1331
def k0_off1 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1334 : Index := Scalar.indexCast v1332
  let c0_412 : Index := 0#32
  ![v1334.toNat, 0]
def k0_off2 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1340 : Index := Scalar.indexCast v1332
  let c128_413 : Index := 128#32
  ![v1340.toNat, 128]
def k0_off3 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1346 : Index := Scalar.indexCast v1332
  let c256_414 : Index := 256#32
  ![v1346.toNat, 256]
def k0_off4 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1352 : Index := Scalar.indexCast v1332
  let c384_415 : Index := 384#32
  ![v1352.toNat, 384]
def k0_off5 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1358 : Index := Scalar.indexCast v1332
  let c512_416 : Index := 512#32
  ![v1358.toNat, 512]
def k0_off6 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1364 : Index := Scalar.indexCast v1332
  let c640_417 : Index := 640#32
  ![v1364.toNat, 640]
def k0_off7 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1370 : Index := Scalar.indexCast v1332
  let c768_418 : Index := 768#32
  ![v1370.toNat, 768]
def k0_off8 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1376 : Index := Scalar.indexCast v1332
  let c896_419 : Index := 896#32
  ![v1376.toNat, 896]
def k0_off9 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1382 : Index := Scalar.indexCast v1332
  let c1024_420 : Index := 1024#32
  ![v1382.toNat, 1024]
def k0_off10 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1388 : Index := Scalar.indexCast v1332
  let c1152_421 : Index := 1152#32
  ![v1388.toNat, 1152]
def k0_off11 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1394 : Index := Scalar.indexCast v1332
  let c1280_422 : Index := 1280#32
  ![v1394.toNat, 1280]
def k0_off12 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1400 : Index := Scalar.indexCast v1332
  let c1408_423 : Index := 1408#32
  ![v1400.toNat, 1408]
def k0_off13 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1406 : Index := Scalar.indexCast v1332
  let c1536_424 : Index := 1536#32
  ![v1406.toNat, 1536]
def k0_off14 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1412 : Index := Scalar.indexCast v1332
  let c1664_425 : Index := 1664#32
  ![v1412.toNat, 1664]
def k0_off15 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1418 : Index := Scalar.indexCast v1332
  let c1792_426 : Index := 1792#32
  ![v1418.toNat, 1792]
def k0_off16 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1424 : Index := Scalar.indexCast v1332
  let c1920_427 : Index := 1920#32
  ![v1424.toNat, 1920]
def k0_off17 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1430 : Index := Scalar.indexCast v1332
  let c2048_428 : Index := 2048#32
  ![v1430.toNat, 2048]
def k0_off18 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1436 : Index := Scalar.indexCast v1332
  let c2176_429 : Index := 2176#32
  ![v1436.toNat, 2176]
def k0_off19 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1442 : Index := Scalar.indexCast v1332
  let c2304_430 : Index := 2304#32
  ![v1442.toNat, 2304]
def k0_off20 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1448 : Index := Scalar.indexCast v1332
  let c2432_431 : Index := 2432#32
  ![v1448.toNat, 2432]
def k0_off21 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1454 : Index := Scalar.indexCast v1332
  let c2560_432 : Index := 2560#32
  ![v1454.toNat, 2560]
def k0_off22 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1460 : Index := Scalar.indexCast v1332
  let c2688_433 : Index := 2688#32
  ![v1460.toNat, 2688]
def k0_off23 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1466 : Index := Scalar.indexCast v1332
  let c2816_434 : Index := 2816#32
  ![v1466.toNat, 2816]
def k0_off24 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1472 : Index := Scalar.indexCast v1332
  let c2944_435 : Index := 2944#32
  ![v1472.toNat, 2944]
def k0_off25 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1478 : Index := Scalar.indexCast v1332
  let c3072_436 : Index := 3072#32
  ![v1478.toNat, 3072]
def k0_off26 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1484 : Index := Scalar.indexCast v1332
  let c3200_437 : Index := 3200#32
  ![v1484.toNat, 3200]
def k0_off27 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1490 : Index := Scalar.indexCast v1332
  let c3328_438 : Index := 3328#32
  ![v1490.toNat, 3328]
def k0_off28 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1496 : Index := Scalar.indexCast v1332
  let c3456_439 : Index := 3456#32
  ![v1496.toNat, 3456]
def k0_off29 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1502 : Index := Scalar.indexCast v1332
  let c3584_440 : Index := 3584#32
  ![v1502.toNat, 3584]
def k0_off30 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1508 : Index := Scalar.indexCast v1332
  let c3712_441 : Index := 3712#32
  ![v1508.toNat, 3712]
def k0_off31 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1514 : Index := Scalar.indexCast v1332
  let c3840_442 : Index := 3840#32
  ![v1514.toNat, 3840]
def k0_off32 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1520 : Index := Scalar.indexCast v1332
  let c3968_443 : Index := 3968#32
  ![v1520.toNat, 3968]
def k0_off33 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1526 : Index := Scalar.indexCast v1332
  let c4096_444 : Index := 4096#32
  ![v1526.toNat, 4096]
def k0_off34 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1532 : Index := Scalar.indexCast v1332
  let c4224 : Index := 4224#32
  ![v1532.toNat, 4224]
def k0_off35 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1538 : Index := Scalar.indexCast v1332
  let c4352_445 : Index := 4352#32
  ![v1538.toNat, 4352]
def k0_off36 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1544 : Index := Scalar.indexCast v1332
  let c4480 : Index := 4480#32
  ![v1544.toNat, 4480]
def k0_off37 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1550 : Index := Scalar.indexCast v1332
  let c4608_446 : Index := 4608#32
  ![v1550.toNat, 4608]
def k0_off38 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1556 : Index := Scalar.indexCast v1332
  let c4736 : Index := 4736#32
  ![v1556.toNat, 4736]
def k0_off39 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1562 : Index := Scalar.indexCast v1332
  let c4864_447 : Index := 4864#32
  ![v1562.toNat, 4864]
def k0_off40 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1568 : Index := Scalar.indexCast v1332
  let c4992 : Index := 4992#32
  ![v1568.toNat, 4992]
def k0_off41 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1574 : Index := Scalar.indexCast v1332
  let c5120_448 : Index := 5120#32
  ![v1574.toNat, 5120]
def k0_off42 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1580 : Index := Scalar.indexCast v1332
  let c5248 : Index := 5248#32
  ![v1580.toNat, 5248]
def k0_off43 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1586 : Index := Scalar.indexCast v1332
  let c5376_449 : Index := 5376#32
  ![v1586.toNat, 5376]
def k0_off44 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1592 : Index := Scalar.indexCast v1332
  let c5504 : Index := 5504#32
  ![v1592.toNat, 5504]
def k0_off45 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1598 : Index := Scalar.indexCast v1332
  let c5632_450 : Index := 5632#32
  ![v1598.toNat, 5632]
def k0_off46 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1604 : Index := Scalar.indexCast v1332
  let c5760 : Index := 5760#32
  ![v1604.toNat, 5760]
def k0_off47 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1610 : Index := Scalar.indexCast v1332
  let c5888_451 : Index := 5888#32
  ![v1610.toNat, 5888]
def k0_off48 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1616 : Index := Scalar.indexCast v1332
  let c6016 : Index := 6016#32
  ![v1616.toNat, 6016]
def k0_off49 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1622 : Index := Scalar.indexCast v1332
  let c6144_452 : Index := 6144#32
  ![v1622.toNat, 6144]
def k0_off50 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1628 : Index := Scalar.indexCast v1332
  let c6272 : Index := 6272#32
  ![v1628.toNat, 6272]
def k0_off51 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1634 : Index := Scalar.indexCast v1332
  let c6400_453 : Index := 6400#32
  ![v1634.toNat, 6400]
def k0_off52 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1640 : Index := Scalar.indexCast v1332
  let c6528 : Index := 6528#32
  ![v1640.toNat, 6528]
def k0_off53 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1646 : Index := Scalar.indexCast v1332
  let c6656_454 : Index := 6656#32
  ![v1646.toNat, 6656]
def k0_off54 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1652 : Index := Scalar.indexCast v1332
  let c6784 : Index := 6784#32
  ![v1652.toNat, 6784]
def k0_off55 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1658 : Index := Scalar.indexCast v1332
  let c6912_455 : Index := 6912#32
  ![v1658.toNat, 6912]
def k0_off56 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1664 : Index := Scalar.indexCast v1332
  let c7040 : Index := 7040#32
  ![v1664.toNat, 7040]
def k0_off57 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1670 : Index := Scalar.indexCast v1332
  let c7168_456 : Index := 7168#32
  ![v1670.toNat, 7168]
def k0_off58 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1676 : Index := Scalar.indexCast v1332
  let c7296 : Index := 7296#32
  ![v1676.toNat, 7296]
def k0_off59 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1682 : Index := Scalar.indexCast v1332
  let c7424_457 : Index := 7424#32
  ![v1682.toNat, 7424]
def k0_off60 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1688 : Index := Scalar.indexCast v1332
  let c7552 : Index := 7552#32
  ![v1688.toNat, 7552]
def k0_off61 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1694 : Index := Scalar.indexCast v1332
  let c7680_458 : Index := 7680#32
  ![v1694.toNat, 7680]
def k0_off62 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1700 : Index := Scalar.indexCast v1332
  let c7808 : Index := 7808#32
  ![v1700.toNat, 7808]
def k0_off63 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1706 : Index := Scalar.indexCast v1332
  let c7936_459 : Index := 7936#32
  ![v1706.toNat, 7936]
def k0_off64 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1712 : Index := Scalar.indexCast v1332
  let c8064 : Index := 8064#32
  ![v1712.toNat, 8064]
def k0_off65 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1740 : Index := Scalar.indexCast v1332
  let c0_469 : Index := 0#32
  ![v1740.toNat, 0]
def k0_off66 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1757 : Index := Scalar.indexCast v1332
  let c256_475 : Index := 256#32
  ![v1757.toNat, 256]
def k0_off67 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1774 : Index := Scalar.indexCast v1332
  let c512_481 : Index := 512#32
  ![v1774.toNat, 512]
def k0_off68 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1791 : Index := Scalar.indexCast v1332
  let c768_487 : Index := 768#32
  ![v1791.toNat, 768]
def k0_off69 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1808 : Index := Scalar.indexCast v1332
  let c1024_493 : Index := 1024#32
  ![v1808.toNat, 1024]
def k0_off70 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1825 : Index := Scalar.indexCast v1332
  let c1280_499 : Index := 1280#32
  ![v1825.toNat, 1280]
def k0_off71 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1842 : Index := Scalar.indexCast v1332
  let c1536_505 : Index := 1536#32
  ![v1842.toNat, 1536]
def k0_off72 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1859 : Index := Scalar.indexCast v1332
  let c1792_511 : Index := 1792#32
  ![v1859.toNat, 1792]
def k0_off73 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1876 : Index := Scalar.indexCast v1332
  let c2048_517 : Index := 2048#32
  ![v1876.toNat, 2048]
def k0_off74 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1893 : Index := Scalar.indexCast v1332
  let c2304_523 : Index := 2304#32
  ![v1893.toNat, 2304]
def k0_off75 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1910 : Index := Scalar.indexCast v1332
  let c2560_529 : Index := 2560#32
  ![v1910.toNat, 2560]
def k0_off76 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1927 : Index := Scalar.indexCast v1332
  let c2816_535 : Index := 2816#32
  ![v1927.toNat, 2816]
def k0_off77 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1944 : Index := Scalar.indexCast v1332
  let c3072_541 : Index := 3072#32
  ![v1944.toNat, 3072]
def k0_off78 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1961 : Index := Scalar.indexCast v1332
  let c3328_547 : Index := 3328#32
  ![v1961.toNat, 3328]
def k0_off79 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1978 : Index := Scalar.indexCast v1332
  let c3584_553 : Index := 3584#32
  ![v1978.toNat, 3584]
def k0_off80 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v1995 : Index := Scalar.indexCast v1332
  let c3840_559 : Index := 3840#32
  ![v1995.toNat, 3840]
def k0_off81 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2012 : Index := Scalar.indexCast v1332
  let c4096_565 : Index := 4096#32
  ![v2012.toNat, 4096]
def k0_off82 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2029 : Index := Scalar.indexCast v1332
  let c4352_571 : Index := 4352#32
  ![v2029.toNat, 4352]
def k0_off83 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2046 : Index := Scalar.indexCast v1332
  let c4608_577 : Index := 4608#32
  ![v2046.toNat, 4608]
def k0_off84 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2063 : Index := Scalar.indexCast v1332
  let c4864_583 : Index := 4864#32
  ![v2063.toNat, 4864]
def k0_off85 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2080 : Index := Scalar.indexCast v1332
  let c5120_589 : Index := 5120#32
  ![v2080.toNat, 5120]
def k0_off86 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2097 : Index := Scalar.indexCast v1332
  let c5376_595 : Index := 5376#32
  ![v2097.toNat, 5376]
def k0_off87 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2114 : Index := Scalar.indexCast v1332
  let c5632_601 : Index := 5632#32
  ![v2114.toNat, 5632]
def k0_off88 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2131 : Index := Scalar.indexCast v1332
  let c5888_607 : Index := 5888#32
  ![v2131.toNat, 5888]
def k0_off89 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2148 : Index := Scalar.indexCast v1332
  let c6144_613 : Index := 6144#32
  ![v2148.toNat, 6144]
def k0_off90 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2165 : Index := Scalar.indexCast v1332
  let c6400_619 : Index := 6400#32
  ![v2165.toNat, 6400]
def k0_off91 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2182 : Index := Scalar.indexCast v1332
  let c6656_625 : Index := 6656#32
  ![v2182.toNat, 6656]
def k0_off92 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2199 : Index := Scalar.indexCast v1332
  let c6912_631 : Index := 6912#32
  ![v2199.toNat, 6912]
def k0_off93 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2216 : Index := Scalar.indexCast v1332
  let c7168_637 : Index := 7168#32
  ![v2216.toNat, 7168]
def k0_off94 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2233 : Index := Scalar.indexCast v1332
  let c7424_643 : Index := 7424#32
  ![v2233.toNat, 7424]
def k0_off95 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2250 : Index := Scalar.indexCast v1332
  let c7680_649 : Index := 7680#32
  ![v2250.toNat, 7680]
def k0_off96 (k0_t1 : Fin k0_t1_loop.trips) : Fin 2 → Nat :=
  let c0_i32_410 : BitVec 32 := 0#32
  let c0_i32_407 : BitVec 32 := 0#32
  let c1_i32 : BitVec 32 := 1#32
  let arg10 : BitVec 32 := Scf.iv c0_i32_407 c1_i32 k0_t1
  let c1_i32_409 : BitVec 32 := 1#32
  let v1329 : BitVec 32 := Scalar.muli arg10 c1_i32_409
  let v1330 : BitVec 32 := Scalar.addi c0_i32_410 v1329
  let c128_i32 : BitVec 32 := 128#32
  let v1331 : BitVec 32 := Scalar.muli v1330 c128_i32
  let v1332 : BitVec 32 := v1331
  let v2267 : Index := Scalar.indexCast v1332
  let c7936_655 : Index := 7936#32
  ![v2267.toNat, 7936]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi arg1 c44_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi arg1 c44_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x2048x8192 : Shape := ⟨3, ![2, 2048, 8192]⟩
abbrev S4096x22528 : Shape := ⟨2, ![4096, 22528]⟩
abbrev S64x22528 : Shape := ⟨2, ![64, 22528]⟩
abbrev S2x2 : Shape := ⟨2, ![2, 2]⟩
abbrev S_ : Shape := ⟨0, ![]⟩
abbrev S2x2048 : Shape := ⟨2, ![2, 2048]⟩
abbrev S2x2048x1 : Shape := ⟨3, ![2, 2048, 1]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S2x2048x64x128 : Shape := ⟨4, ![2, 2048, 64, 128]⟩
abbrev S32x22528 : Shape := ⟨2, ![32, 22528]⟩
abbrev S32x128x22528 : Shape := ⟨3, ![32, 128, 22528]⟩
abbrev S32x1x22528 : Shape := ⟨3, ![32, 1, 22528]⟩
abbrev S2x2048x4096 : Shape := ⟨3, ![2, 2048, 4096]⟩
abbrev S2x2048x22528 : Shape := ⟨3, ![2, 2048, 22528]⟩
abbrev S2x2048x11264 : Shape := ⟨3, ![2, 2048, 11264]⟩
abbrev S4096x11264 : Shape := ⟨2, ![4096, 11264]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x8192, .bf16⟩
  | .hbm, ⟨1, _⟩ => ⟨S4096x22528, .i8⟩
  | .hbm, ⟨2, _⟩ => ⟨S64x22528, .bf16⟩
  | .hbm, ⟨3, _⟩ => ⟨S2x2, .f32⟩
  | .hbm, ⟨4, _⟩ => ⟨S2x2048x8192, .f32⟩
  | .hbm, ⟨5, _⟩ => ⟨S2x2048x8192, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x8192, .f32⟩
  | .hbm, ⟨17, _⟩ => ⟨S2x2048x8192, .f32⟩
  | .hbm, ⟨18, _⟩ => ⟨S_, .f32⟩
  | .hbm, ⟨19, _⟩ => ⟨S1x1, .f32⟩
  | .hbm, ⟨20, _⟩ => ⟨S1x1x1x1, .f32⟩
  | .hbm, ⟨21, _⟩ => ⟨S1x2x1x2, .f32⟩
  | .hbm, ⟨22, _⟩ => ⟨S1x2x1x2, .f32⟩
  | .hbm, ⟨23, _⟩ => ⟨S1x2x1x2, .f32⟩
  | .hbm, ⟨24, _⟩ => ⟨S2x2, .f32⟩
  | .hbm, ⟨25, _⟩ => ⟨S2x1x2x1, .f32⟩
  | .hbm, ⟨26, _⟩ => ⟨S1x2x1x2, .f32⟩
  | .hbm, ⟨27, _⟩ => ⟨S2x2x2x2, .f32⟩
  | .hbm, ⟨28, _⟩ => ⟨S2x2x2x2, .f32⟩
  | .hbm, ⟨29, _⟩ => ⟨S2x2x2x2, .f32⟩
  | .hbm, ⟨30, _⟩ => ⟨S4x4, .f32⟩
  | .hbm, ⟨31, _⟩ => ⟨S4x1x4x1, .f32⟩
  | .hbm, ⟨32, _⟩ => ⟨S1x2x1x2, .f32⟩
  | .hbm, ⟨33, _⟩ => ⟨S4x2x4x2, .f32⟩
  | .hbm, ⟨34, _⟩ => ⟨S4x2x4x2, .f32⟩
  | .hbm, ⟨35, _⟩ => ⟨S4x2x4x2, .f32⟩
  | .hbm, ⟨36, _⟩ => ⟨S8x8, .f32⟩
  | .hbm, ⟨37, _⟩ => ⟨S8x1x8x1, .f32⟩
  | .hbm, ⟨38, _⟩ => ⟨S1x2x1x2, .f32⟩
  | .hbm, ⟨39, _⟩ => ⟨S8x2x8x2, .f32⟩
  | .hbm, ⟨40, _⟩ => ⟨S8x2x8x2, .f32⟩
  | .hbm, ⟨41, _⟩ => ⟨S8x2x8x2, .f32⟩
  | .hbm, ⟨42, _⟩ => ⟨S16x16, .f32⟩
  | .hbm, ⟨43, _⟩ => ⟨S16x1x16x1, .f32⟩
  | .hbm, ⟨44, _⟩ => ⟨S1x2x1x2, .f32⟩
  | .hbm, ⟨45, _⟩ => ⟨S16x2x16x2, .f32⟩
  | .hbm, ⟨46, _⟩ => ⟨S16x2x16x2, .f32⟩
  | .hbm, ⟨47, _⟩ => ⟨S16x2x16x2, .f32⟩
  | .hbm, ⟨48, _⟩ => ⟨S32x32, .f32⟩
  | .hbm, ⟨49, _⟩ => ⟨S32x1x32x1, .f32⟩
  | .hbm, ⟨50, _⟩ => ⟨S1x2x1x2, .f32⟩
  | .hbm, ⟨51, _⟩ => ⟨S32x2x32x2, .f32⟩
  | .hbm, ⟨52, _⟩ => ⟨S32x2x32x2, .f32⟩
  | .hbm, ⟨53, _⟩ => ⟨S32x2x32x2, .f32⟩
  | .hbm, ⟨54, _⟩ => ⟨S64x64, .f32⟩
  | .hbm, ⟨55, _⟩ => ⟨S64x1x64x1, .f32⟩
  | .hbm, ⟨56, _⟩ => ⟨S1x2x1x2, .f32⟩
  | .hbm, ⟨57, _⟩ => ⟨S64x2x64x2, .f32⟩
  | .hbm, ⟨58, _⟩ => ⟨S64x2x64x2, .f32⟩
  | .hbm, ⟨59, _⟩ => ⟨S64x2x64x2, .f32⟩
  | .hbm, ⟨60, _⟩ => ⟨S128x128, .f32⟩
  | .hbm, ⟨61, _⟩ => ⟨S_, .f32⟩
  | .hbm, ⟨62, _⟩ => ⟨S128x128, .f32⟩
  | .hbm, ⟨63, _⟩ => ⟨S128x128, .f32⟩
  | .hbm, ⟨64, _⟩ => ⟨S2x2048x64x128, .f32⟩
  | .hbm, ⟨65, _⟩ => ⟨S2x2048x64x128, .f32⟩
  | .hbm, ⟨66, _⟩ => ⟨S2x2048x8192, .f32⟩
  | .hbm, ⟨67, _⟩ => ⟨S2x2048x8192, .bf16⟩
  | .hbm, ⟨68, _⟩ => ⟨S4096x22528, .i32⟩
  | .hbm, ⟨69, _⟩ => ⟨S_, .i32⟩
  | .hbm, ⟨70, _⟩ => ⟨S4096x22528, .i32⟩
  | .hbm, ⟨71, _⟩ => ⟨S4096x22528, .i32⟩
  | .hbm, ⟨72, _⟩ => ⟨S32x22528, .bf16⟩
  | .hbm, ⟨73, _⟩ => ⟨S_, .i32⟩
  | .hbm, ⟨74, _⟩ => ⟨S4096x22528, .i32⟩
  | .hbm, ⟨75, _⟩ => ⟨S4096x22528, .i1⟩
  | .hbm, ⟨76, _⟩ => ⟨S_, .i32⟩
  | .hbm, ⟨77, _⟩ => ⟨S4096x22528, .i32⟩
  | .hbm, ⟨78, _⟩ => ⟨S4096x22528, .i32⟩
  | .hbm, ⟨79, _⟩ => ⟨S4096x22528, .i32⟩
  | .hbm, ⟨80, _⟩ => ⟨S4096x22528, .bf16⟩
  | .hbm, ⟨81, _⟩ => ⟨S32x128x22528, .bf16⟩
  | .hbm, ⟨82, _⟩ => ⟨S32x1x22528, .bf16⟩
  | .hbm, ⟨83, _⟩ => ⟨S32x128x22528, .bf16⟩
  | .hbm, ⟨84, _⟩ => ⟨S32x128x22528, .bf16⟩
  | .hbm, ⟨85, _⟩ => ⟨S4096x22528, .bf16⟩
  | .hbm, ⟨86, _⟩ => ⟨S4096x22528, .i32⟩
  | .hbm, ⟨87, _⟩ => ⟨S_, .i32⟩
  | .hbm, ⟨88, _⟩ => ⟨S4096x22528, .i32⟩
  | .hbm, ⟨89, _⟩ => ⟨S4096x22528, .i32⟩
  | .hbm, ⟨90, _⟩ => ⟨S32x22528, .bf16⟩
  | .hbm, ⟨91, _⟩ => ⟨S_, .i32⟩
  | .hbm, ⟨92, _⟩ => ⟨S4096x22528, .i32⟩
  | .hbm, ⟨93, _⟩ => ⟨S4096x22528, .i1⟩
  | .hbm, ⟨94, _⟩ => ⟨S_, .i32⟩
  | .hbm, ⟨95, _⟩ => ⟨S4096x22528, .i32⟩
  | .hbm, ⟨96, _⟩ => ⟨S4096x22528, .i32⟩
  | .hbm, ⟨97, _⟩ => ⟨S4096x22528, .i32⟩
  | .hbm, ⟨98, _⟩ => ⟨S4096x22528, .bf16⟩
  | .hbm, ⟨99, _⟩ => ⟨S32x128x22528, .bf16⟩
  | .hbm, ⟨100, _⟩ => ⟨S32x1x22528, .bf16⟩
  | .hbm, ⟨101, _⟩ => ⟨S32x128x22528, .bf16⟩
  | .hbm, ⟨102, _⟩ => ⟨S32x128x22528, .bf16⟩
  | .hbm, ⟨103, _⟩ => ⟨S4096x22528, .bf16⟩
  | .hbm, ⟨104, _⟩ => ⟨S2x2048x4096, .bf16⟩
  | .hbm, ⟨105, _⟩ => ⟨S2x2048x22528, .f32⟩
  | .hbm, ⟨106, _⟩ => ⟨S2x2048x4096, .bf16⟩
  | .hbm, ⟨107, _⟩ => ⟨S2x2048x22528, .f32⟩
  | .hbm, ⟨108, _⟩ => ⟨S2x2048x22528, .f32⟩
  | .hbm, ⟨109, _⟩ => ⟨S2x2048x11264, .f32⟩
  | .hbm, ⟨110, _⟩ => ⟨S2x2048x11264, .f32⟩
  | .hbm, ⟨111, _⟩ => ⟨S2x2048x11264, .f32⟩
  | .hbm, ⟨112, _⟩ => ⟨S_, .f32⟩
  | .hbm, ⟨113, _⟩ => ⟨S2x2048x11264, .f32⟩
  | .hbm, ⟨114, _⟩ => ⟨S2x2048x11264, .f32⟩
  | .hbm, ⟨115, _⟩ => ⟨S_, .f32⟩
  | .hbm, ⟨116, _⟩ => ⟨S2x2048x11264, .f32⟩
  | .hbm, ⟨117, _⟩ => ⟨S2x2048x11264, .f32⟩
  | .hbm, ⟨118, _⟩ => ⟨S2x2048x11264, .f32⟩
  | .hbm, ⟨119, _⟩ => ⟨S2x2048x11264, .f32⟩
  | .hbm, ⟨120, _⟩ => ⟨S2x2048x11264, .f32⟩
  | .hbm, ⟨121, _⟩ => ⟨S2x2048x11264, .bf16⟩
  | .hbm, ⟨122, _⟩ => ⟨S4096x11264, .bf16⟩
  | _, _ => ⟨S2x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v13 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v14 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v15 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_v16 : Ref sig .tc := ⟨.hbm, 48, rfl⟩
abbrev main_call5_v0 : Ref sig .tc := ⟨.hbm, 49, rfl⟩
abbrev main_call5_v1 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_v17 : Ref sig .tc := ⟨.hbm, 54, rfl⟩
abbrev main_call6_v0 : Ref sig .tc := ⟨.hbm, 55, rfl⟩
abbrev main_call6_v1 : Ref sig .tc := ⟨.hbm, 56, rfl⟩
abbrev main_call6_v2 : Ref sig .tc := ⟨.hbm, 57, rfl⟩
abbrev main_call6_v3 : Ref sig .tc := ⟨.hbm, 58, rfl⟩
abbrev main_call6_v4 : Ref sig .tc := ⟨.hbm, 59, rfl⟩
abbrev main_v18 : Ref sig .tc := ⟨.hbm, 60, rfl⟩
abbrev main_cst_4 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_c_5 : Ref sig .tc := ⟨.hbm, 73, rfl⟩
abbrev main_v29 : Ref sig .tc := ⟨.hbm, 74, rfl⟩
abbrev main_v30 : Ref sig .tc := ⟨.hbm, 75, rfl⟩
abbrev main_c_6 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_7 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_c_8 : Ref sig .tc := ⟨.hbm, 91, rfl⟩
abbrev main_v44 : Ref sig .tc := ⟨.hbm, 92, rfl⟩
abbrev main_v45 : Ref sig .tc := ⟨.hbm, 93, rfl⟩
abbrev main_c_9 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_call9_v0 : Ref sig .tc := ⟨.hbm, 110, rfl⟩
abbrev main_call9_v1 : Ref sig .tc := ⟨.hbm, 111, rfl⟩
abbrev main_call9_cst : Ref sig .tc := ⟨.hbm, 112, rfl⟩
abbrev main_call9_v2 : Ref sig .tc := ⟨.hbm, 113, rfl⟩
abbrev main_call9_v3 : Ref sig .tc := ⟨.hbm, 114, rfl⟩
abbrev main_call9_cst_0 : Ref sig .tc := ⟨.hbm, 115, rfl⟩
abbrev main_call9_v4 : Ref sig .tc := ⟨.hbm, 116, rfl⟩
abbrev main_call9_v5 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩

abbrev nD : Nat := 1
abbrev τ : Topo := Topo.v7x

variable {F : FTy → Type} [FloatOps F]
-- ==== Proof.Common.lean ====
module

public import Idealize.ShloMosaic.Lib.Pointwise

/-! # Signs, constants and the rotation as plain sums

Functions and equations over the extended reals that both programs' values are stated with. -/

@[expose] public section

noncomputable section

namespace Cert.Common

open Idealize.ShloMosaic

/-- Whether the entry `(i, j)` of the `2 ^ n` by `2 ^ n` Hadamard matrix is negative: the parity of the number of
    bits `i` and `j` have in common. -/
def flips : ℕ → ℕ → ℕ → Bool
  | 0, _, _ => false
  | n + 1, i, j => xor (flips n (i / 2) (j / 2)) (decide (i % 2 = 1) && decide (j % 2 = 1))

/-- The entry `(i, j)` of the `2 ^ n` by `2 ^ n` Hadamard matrix. -/
def sgn (n i j : ℕ) : ℝ := if flips n i j then -1 else 1

/-- The Hadamard matrix of size one has the entry one. -/
theorem sgn_zero (i j : ℕ) : sgn 0 i j = 1 := rfl

/-- One step of the construction: the entry of the larger matrix is the entry of the smaller one times the entry of
    the 2 by 2 matrix. -/
theorem sgn_succ (n i j : ℕ) : sgn (n + 1) i j = sgn n (i / 2) (j / 2) * (if i % 2 = 1 ∧ j % 2 = 1 then -1 else 1) := by
  unfold sgn
  rw [flips]
  cases flips n (i / 2) (j / 2) <;> by_cases h : i % 2 = 1 <;> by_cases h' : j % 2 = 1 <;> simp [h, h']

/-- The f32 pattern of 1. -/
theorem bits_one : Ideal.ofBits .f32 0x3F800000#32 = ((1 : ℝ) : EReal) := by
  simp [Ideal.ofBits, Ideal.ieee, -EReal.coe_mul]; norm_num

/-- The f32 pattern of -1. -/
theorem bits_neg_one : Ideal.ofBits .f32 0xBF800000#32 = ((-1 : ℝ) : EReal) := by
  simp [Ideal.ofBits, Ideal.ieee, -EReal.coe_mul]; norm_num

/-- The f32 pattern of 0. -/
theorem bits_zero : Ideal.ofBits .f32 0x00000000#32 = 0 := by
  simp [Ideal.ofBits, Ideal.ieee, -EReal.coe_mul]

/-- The f32 pattern of 128. -/
theorem bits_128 : Ideal.ofBits .f32 0x43000000#32 = ((128 : ℝ) : EReal) := by
  simp [Ideal.ofBits, Ideal.ieee, -EReal.coe_mul]; norm_num

/-- The f32 pattern of 8192. -/
theorem bits_8192 : Ideal.ofBits .f32 0x46000000#32 = ((8192 : ℝ) : EReal) := by
  simp [Ideal.ofBits, Ideal.ieee, -EReal.coe_mul]; norm_num

/-- The f32 pattern of 1/8192. -/
theorem bits_inv_8192 : Ideal.ofBits .f32 0x39000000#32 = ((1 / 8192 : ℝ) : EReal) := by
  simp [Ideal.ofBits, Ideal.ieee, -EReal.coe_mul]; norm_num

/-- The square root of 128 as stored in 32 bits. -/
def root : ℝ := 11863283 / 1048576

/-- The f32 pattern nearest to the square root of 128 is the number `root`. -/
theorem bits_root : Ideal.ofBits .f32 0x413504F3#32 = ((root : ℝ) : EReal) := by
  simp [Ideal.ofBits, Ideal.ieee, root, -EReal.coe_mul]; norm_num

/-- The f32 pattern nearest to one over the square root of 128 is exactly `root / 128`. -/
theorem bits_inv_root : Ideal.ofBits .f32 0x3DB504F3#32 = ((root / 128 : ℝ) : EReal) := by
  simp [Ideal.ofBits, Ideal.ieee, root, -EReal.coe_mul]; norm_num

/-- The constant added to the mean square. -/
def eps : ℝ := 8796093 / 8796093022208

/-- The f32 pattern nearest to one millionth is the number `eps`. -/
theorem bits_eps : Ideal.ofBits .f32 0x358637BD#32 = ((eps : ℝ) : EReal) := by
  simp [Ideal.ofBits, Ideal.ieee, eps, -EReal.coe_mul]; norm_num

/-- `eps` is positive. -/
theorem eps_pos : 0 < eps := by unfold eps; norm_num

/-- `root` is positive. -/
theorem root_pos : 0 < root := by unfold root; norm_num

/-- The reciprocal root of the mean square of a row whose sum of squares is `q`. -/
def invRms (q : EReal) : EReal := Ideal.rsqrt (q * ((1 / 8192 : ℝ) : EReal) + (eps : EReal))

/-- The reciprocal square root of infinity is zero. -/
theorem rsqrt_top : Ideal.rsqrt ⊤ = 0 := rfl

/-- The reciprocal square root of a positive real number is the real one. -/
theorem rsqrt_pos {r : ℝ} (h : 0 < r) : Ideal.rsqrt (r : EReal) = (((√r)⁻¹ : ℝ) : EReal) := by
  show (if r < 0 then ⊥ else if r = 0 then ⊤ else (((√r)⁻¹ : ℝ) : EReal)) = _
  rw [if_neg (not_lt.mpr h.le), if_neg h.ne']

/-- It is not negative and it is finite. -/
theorem invRms_bounds {q : EReal} (hq : 0 ≤ q) : 0 ≤ invRms q ∧ invRms q ≠ ⊤ := by
  unfold invRms
  have hm : 0 ≤ q * ((1 / 8192 : ℝ) : EReal) := mul_nonneg hq (by exact_mod_cast (by norm_num : (0:ℝ) ≤ 1/8192))
  generalize q * ((1 / 8192 : ℝ) : EReal) = v at hm
  induction v with
  | bot => simp at hm
  | top => rw [EReal.top_add_coe, rsqrt_top]; exact ⟨le_refl _, EReal.zero_ne_top⟩
  | coe v =>
    have hv : 0 ≤ v := by exact_mod_cast hm
    have hp : 0 < v + eps := by have := eps_pos; linarith
    rw [← EReal.coe_add]
    rw [rsqrt_pos hp]
    refine ⟨?_, EReal.coe_ne_top _⟩
    exact_mod_cast inv_nonneg.mpr (Real.sqrt_nonneg _)

/-- A nonnegative finite factor may be taken into a finite sum. -/
theorem sum_mul_nonneg {ι : Type} (s : Finset ι) (f : ι → EReal) {a : EReal} (h0 : 0 ≤ a) (ht : a ≠ ⊤) :
    (∑ k ∈ s, f k) * a = ∑ k ∈ s, f k * a := by
  classical
  induction s using Finset.induction_on with
  | empty => simp
  | insert k s hk ih => rw [Finset.sum_insert hk, Finset.sum_insert hk, EReal.right_distrib_of_nonneg_of_ne_top h0 ht, ih]

/-- A square is not negative. -/
theorem mul_self_nonneg' (x : EReal) : 0 ≤ x * x := by
  rcases le_total 0 x with h | h
  · exact mul_nonneg h h
  · exact EReal.mul_nonneg_iff.mpr (Or.inr ⟨h, h⟩)

/-- A sum of squares is not negative. -/
theorem sumSq_nonneg (xs : Fin 8192 → EReal) : 0 ≤ ∑ k, xs k * xs k := Finset.sum_nonneg fun _ _ => mul_self_nonneg' _

/-- One rotated entry: the sum over 128 columns of the normalised entries times the orthonormal Hadamard entries. -/
def rotate (q : EReal) (x : Fin 128 → EReal) (l : ℕ) : EReal :=
  ∑ k : Fin 128, (x k * invRms q) * (((sgn 7 k l : ℝ) : EReal) * ((root / 128 : ℝ) : EReal))

/-- The same entry with the row factor and the constant taken outside the sum. -/
theorem rotate_eq {q : EReal} (hq : 0 ≤ q) (x : Fin 128 → EReal) (l : ℕ) :
    (∑ k : Fin 128, x k * ((sgn 7 k l / 128 : ℝ) : EReal)) * (invRms q * ((root : ℝ) : EReal)) = rotate q x l := by
  obtain ⟨h0, ht⟩ := invRms_bounds hq
  have hr : (0 : EReal) ≤ (root : EReal) := by exact_mod_cast root_pos.le
  have h0' : 0 ≤ invRms q * (root : EReal) := mul_nonneg h0 hr
  have ht' : invRms q * (root : EReal) ≠ ⊤ := by
    lift invRms q to ℝ using ⟨ht, ne_of_gt (lt_of_lt_of_le EReal.bot_lt_zero h0)⟩ with ρ
    rw [← EReal.coe_mul]; exact EReal.coe_ne_top _
  rw [sum_mul_nonneg _ _ h0' ht']
  refine Finset.sum_congr rfl fun k _ => ?_
  have e : ((sgn 7 k l / 128 : ℝ) : EReal) * ((root : ℝ) : EReal) = ((sgn 7 k l : ℝ) : EReal) * ((root / 128 : ℝ) : EReal) := by
    rw [← EReal.coe_mul, ← EReal.coe_mul]; congr 1; ring
  rw [← e]
  ac_rfl

/-- The low nibble of a code as a signed number. -/
def lowVal (c : BitVec 8) : ℤ := (c.setWidth 4).toInt

/-- The high nibble of a code as a signed number. -/
def highVal (c : BitVec 8) : ℤ := ((c >>> 4).setWidth 4).toInt

/-- A row rotated: entry `l` is taken from the run of 128 columns it lies in. -/
def rotRow (xs : Fin 8192 → EReal) (l : Fin 8192) : EReal :=
  rotate (∑ k : Fin 8192, xs k * xs k) (fun k : Fin 128 => xs ⟨l.val / 128 * 128 + k.val, by omega⟩) (l.val % 128)

/-- A rotated row times one column of weights: the low nibbles meet the lower half of the row, the high nibbles the
    upper half; 128 rows share a scale. -/
def dotCol (y : Fin 8192 → EReal) (q : Fin 4096 → BitVec 8) (s : Fin 64 → EReal) : EReal :=
  (∑ k : Fin 4096, y ⟨k.val, by omega⟩ * (((lowVal (q k) : ℝ) : EReal) * s ⟨k.val / 128, by omega⟩))
    + ∑ k : Fin 4096, y ⟨4096 + k.val, by omega⟩ * (((highVal (q k) : ℝ) : EReal) * s ⟨32 + k.val / 128, by omega⟩)

/-- The gate times its logistic, times the other half. -/
def gated (g u : EReal) : EReal := g * Ideal.div 1 (1 + Ideal.exp (-g)) * u

/-- The sums over pairs of rows, low and high nibble in neighbouring rows, are the two sums of `dotCol`. -/
theorem dotCol_pairs (y y' : Fin 8192 → EReal) (q : Fin 4096 → BitVec 8) (s : Fin 64 → EReal) (w : Fin 32 → Fin 256 → EReal)
    (hy0 : ∀ (g : Fin 32) (k : Fin 128), y' ⟨256 * g.val + 2 * k.val, by omega⟩ = y ⟨128 * g.val + k.val, by omega⟩)
    (hy1 : ∀ (g : Fin 32) (k : Fin 128), y' ⟨256 * g.val + (2 * k.val + 1), by omega⟩ = y ⟨4096 + (128 * g.val + k.val), by omega⟩)
    (hw0 : ∀ (g : Fin 32) (k : Fin 128), w g ⟨2 * k.val, by omega⟩ = ((lowVal (q ⟨128 * g.val + k.val, by omega⟩) : ℝ) : EReal) * s ⟨g.val, by omega⟩)
    (hw1 : ∀ (g : Fin 32) (k : Fin 128), w g ⟨2 * k.val + 1, by omega⟩ = ((highVal (q ⟨128 * g.val + k.val, by omega⟩) : ℝ) : EReal) * s ⟨32 + g.val, by omega⟩) :
    (∑ g : Fin 32, ∑ k : Fin 256, y' ⟨256 * g.val + k.val, by omega⟩ * w g k) = dotCol y q s := by
  unfold dotCol
  rw [Fin.sum_univ_tiles 32 128 rfl (fun k : Fin 4096 => y ⟨k.val, by omega⟩ * (((lowVal (q k) : ℝ) : EReal) * s ⟨k.val / 128, by omega⟩)),
    Fin.sum_univ_tiles 32 128 rfl (fun k : Fin 4096 => y ⟨4096 + k.val, by omega⟩ * (((highVal (q k) : ℝ) : EReal) * s ⟨32 + k.val / 128, by omega⟩)),
    ← Finset.sum_add_distrib]
  refine Finset.sum_congr rfl fun g _ => ?_
  rw [← Finset.sum_add_distrib, Fin.sum_univ_tiles 128 2 rfl (fun k : Fin 256 => y' ⟨256 * g.val + k.val, by omega⟩ * w g k)]
  refine Finset.sum_congr rfl fun k _ => ?_
  rw [Fin.sum_univ_two]
  refine congrArg₂ (· + ·) (congrArg₂ (· * ·) ?_ ?_) (congrArg₂ (· * ·) ?_ ?_)
  · refine .trans ?_ ((hy0 g k).trans ?_) <;> exact congrArg _ (Fin.ext (by simp; try omega))
  · refine .trans ?_ ((hw0 g k).trans ?_)
    · exact congrArg _ (Fin.ext (by simp; try omega))
    · refine congrArg₂ (· * ·) ?_ ?_
      · exact congrArg (fun i => ((lowVal (q i) : ℝ) : EReal)) (Fin.ext (by simp; try omega))
      · exact congrArg s (Fin.ext (by simp; try omega))
  · refine .trans ?_ ((hy1 g k).trans ?_) <;> exact congrArg _ (Fin.ext (by simp; try omega))
  · refine .trans ?_ ((hw1 g k).trans ?_)
    · exact congrArg _ (Fin.ext (by simp; try omega))
    · refine congrArg₂ (· * ·) ?_ ?_
      · exact congrArg (fun i => ((highVal (q i) : ℝ) : EReal)) (Fin.ext (by simp; try omega))
      · exact congrArg s (Fin.ext (by simp; try omega))

end Cert.Common
-- ==== Proof.Rotate.lean ====
module

public import proofs.«01_k».proof.Proof.Common
public import proofs.«01_k».proof.Proof.Gen.KernelIdeal.Frame
public import Idealize.ShloMosaic.Lib.Pointwise
public import Idealize.ShloMosaic.Lib.Pipeline.ValueKit

/-! # What the rotation loop leaves in the scratch

One trip of the loop rotates 128 rows and stores 32 pieces of 256 columns. Each piece is a part of one function of
the row block and the sign block, and the pieces of the eight trips cover the scratch, so the scratch holds that
function. -/

@[expose] public section

set_option maxRecDepth 16384

noncomputable section

namespace Cert.KernelIdeal.Gen

open Idealize.ShloMosaic Idealize.ShloMosaic.TcCoe
open Idealize.SL.Sem

section Pieces

variable {F : FTy → Type} [FloatOps F]

/-- The 128 columns of group `n`, of 128 rows from row `o`, lie inside the block of rows. -/
theorem inb_lanes {o : ℕ} (ho : o + 128 ≤ 1024) {n : ℕ} (hn : n < 64) :
    ∀ a, (![o, 128 * n] : Fin 2 → ℕ) a + S128x128.size a ≤ S1024x8192.size a := by
  intro a; fin_cases a
  · exact ho
  · show 128 * n + 128 ≤ 8192; omega

/-- The 256 columns of pair `n`, of 128 rows from row `o`, lie inside the scratch array. -/
theorem inb_piece {o : ℕ} (ho : o + 128 ≤ 1024) {n : ℕ} (hn : n < 32) :
    ∀ a, (![o, 256 * n] : Fin 2 → ℕ) a + S128x256.size a ≤ S1024x8192.size a := by
  intro a; fin_cases a
  · exact ho
  · show 256 * n + 256 ≤ 8192; omega

/-- Rows `o … o + 127`, columns `128 n … 128 n + 127` of the row block. -/
def lanes (x : Vec F S1024x8192 .bf16) {o : ℕ} (ho : o + 128 ≤ 1024) (n : ℕ) (hn : n < 64) : FVec F S128x128 .bf16 :=
  shapeCast S128x128 (View.ld x (Rect.unit ![o, 128 * n] S128x128.size (inb_lanes ho hn))) shapeCasts_S128x128_S128x128

/-- The sum of the squares of the first `n` column blocks, lane by lane. -/
def squares (x : Vec F S1024x8192 .bf16) {o : ℕ} (ho : o + 128 ≤ 1024) : (n : ℕ) → n ≤ 64 → FVec F S128x128 .f32
  | 0, _ => broadcast S128x128 (Scalar.ofBits .f32 0x00000000#32)
  | n + 1, h => addf (squares x ho n (Nat.le_of_succ_le h))
      (mulf (extf .f32 (lanes x ho n h) bitsLt_bf16_f32) (extf .f32 (lanes x ho n h) bitsLt_bf16_f32))

/-- The factor of each row: the reciprocal root of the mean square, times the square root of 128. -/
def rowFactor (x : Vec F S1024x8192 .bf16) {o : ℕ} (ho : o + 128 ≤ 1024) : FVec F S128x1 .f32 :=
  mulf
    (rsqrt (addf
      (mulf (shapeCast S128x1 (multiReduction .add [1] S128 (squares x ho 64 (le_refl _)) 0x00000000#32 reduces_S128x128_S128 (.inl rfl) rfl) shapeCasts_S128_S128x1)
        (broadcast S128x1 (Scalar.ofBits .f32 0x39000000#32)))
      (broadcast S128x1 (Scalar.ofBits .f32 0x358637BD#32))))
    (broadcast S128x1 (Scalar.ofBits .f32 0x413504F3#32))

/-- One stored piece: column blocks `n` and `32 + n` side by side, times the signs, times the row factors. -/
def piece (x : Vec F S1024x8192 .bf16) (sg : Vec F S256x256 .bf16) {o : ℕ} (ho : o + 128 ≤ 1024) (n : ℕ) (hn : n < 32) : FVec F S128x256 .bf16 :=
  shapeCast S128x256
    (truncf .bf16
      (mulf
        (matmul dot_S128x256_S256x256_S128x256_1_0_0_1_n_n none
          (concatenate S128x256 1 [⟨S128x128, lanes x ho n (by omega)⟩, ⟨S128x128, lanes x ho (32 + n) (by omega)⟩] concatenates_S128x128_S128x128_S128x256_d1)
          (shapeCast S256x256 (View.ld sg (Rect.unit ![0, 0] S256x256.size inb_S256x256_S256x256_0_0)) shapeCasts_S256x256_S256x256)
          (constant S128x256 .f32 0x00000000#32))
        (broadcastTo S128x256 (rowFactor x ho) broadcasts_S128x1_S128x256))
      bitsLt_bf16_f32)
    shapeCasts_S128x256_S128x256

/-- The first `n` pieces of one trip, last stored first. -/
def pieces (x : Vec F S1024x8192 .bf16) (sg : Vec F S256x256 .bf16) {o : ℕ} (ho : o + 128 ≤ 1024) : (n : ℕ) → n ≤ 32 → List (View.Piece (Elt F) S1024x8192 .bf16)
  | 0, _ => []
  | n + 1, h => ⟨Rect.unit ![o, 256 * n] S128x256.size (inb_piece ho h), piece x sg ho n h⟩ :: pieces x sg ho n (Nat.le_of_succ_le h)

/-- The first row of trip `k`, as the loop computes it. -/
def rowWord (k : ℕ) : ℕ :=
  BitVec.toNat (Scalar.indexCast (Scalar.muli (Scalar.addi (0#32) (Scalar.muli (Scf.iv 0#32 1#32 k) 1#32)) 128#32))

/-- The 128 rows of every trip of the loop lie inside the block of rows. -/
theorem rowWord_le (k : Fin k0_t1_loop.trips) : rowWord k.val + 128 ≤ 1024 := by
  revert k; decide +kernel

/-- One trip stores the 32 pieces of its rows. -/
theorem trip_pieces (c : Dev nD) (i : grid0.Coords) (arg2 : Memref sig .tc .vmem S1024x8192 .bf16) (harg2 : arg2.IsWhole) (arg3 : Memref sig .tc .vmem S256x256 .bf16) (harg3 : arg3.IsWhole) (arg4 : Memref sig .tc .vmem S4096x256 .i8) (harg4 : arg4.IsWhole) (arg5 : Memref sig .tc .vmem S4096x256 .i8) (harg5 : arg5.IsWhole) (arg6 : Memref sig .tc .vmem S64x256 .bf16) (harg6 : arg6.IsWhole) (arg7 : Memref sig .tc .vmem S64x256 .bf16) (harg7 : arg7.IsWhole) (arg8 : Memref sig .tc .vmem S1024x256 .bf16) (harg8 : arg8.IsWhole) (arg9 : Memref sig .tc .vmem S1024x8192 .bf16) (harg9 : arg9.IsWhole) (h : k0_cond1 i = 1#1)
    (x0 : Vec F S1024x8192 .bf16) (x1 : Vec F S256x256 .bf16) (k : Fin k0_t1_loop.trips) :
    tripL_k0_t1 (F := F) Variants.none c none i arg2 harg2 arg3 harg3 arg4 harg4 arg5 harg5 arg6 harg6 arg7 harg7 arg8 harg8 arg9 harg9 h (harg2.unread x0) (harg3.unread x1) k
      = pieces x0 x1 (rowWord_le k) 32 (le_refl _) := by
  unfold tripL_k0_t1 trip_k0_t1
  dsimp only
  sl_unfold_words
  simp only [View.readAt_eq_ld, harg2.read_unread, harg3.read_unread]
  rfl

end Pieces

end Cert.KernelIdeal.Gen
-- ==== Proof.RotateValue.lean ====
module

public import proofs.«01_k».proof.Proof.Rotate

/-! # The rotated rows as a function of the row block and the sign block -/

@[expose] public section

set_option maxRecDepth 16384

noncomputable section

namespace Cert.KernelIdeal.Gen

open Idealize.ShloMosaic Idealize.ShloMosaic.TcCoe
open Idealize.SL.Sem
open Cert.Common

/-- The rotated rows: entry `(r, l)` is the sum over the 256 entries of the pair of column blocks that meet column
    `l % 256` of the sign block, times the factor of row `r`. -/
def rotBlock (x : FVec Ideal S1024x8192 .bf16) (sg : FVec Ideal S256x256 .bf16) (r : Fin 1024) (l : Fin 8192) : EReal :=
  ((∑ k : Fin 128, x (ix2 r ⟨128 * (l.val / 256) + k.val, by omega⟩) * sg (ix2 ⟨k.val, by omega⟩ ⟨l.val % 256, by omega⟩))
    + ∑ k : Fin 128, x (ix2 r ⟨128 * (32 + l.val / 256) + k.val, by omega⟩) * sg (ix2 ⟨128 + k.val, by omega⟩ ⟨l.val % 256, by omega⟩))
    * (invRms (∑ k : Fin 8192, x (ix2 r k) * x (ix2 r k)) * ((root : ℝ) : EReal))

/-- The squares of the first `n` column blocks, summed lane by lane. -/
theorem squares_at (x : FVec Ideal S1024x8192 .bf16) {o : ℕ} (ho : o + 128 ≤ 1024) (r k : Fin 128) : ∀ (n : ℕ) (hn : n ≤ 64),
    squares (F := Ideal) x ho n hn (ix2 r k) = ∑ j : Fin n, x (ix2 ⟨o + r.val, by omega⟩ ⟨128 * j.val + k.val, by omega⟩) * x (ix2 ⟨o + r.val, by omega⟩ ⟨128 * j.val + k.val, by omega⟩)
  | 0, _ => by
    rw [Fin.sum_univ_zero]
    exact bits_zero
  | n + 1, h => by
    rw [Fin.sum_univ_castSucc]
    have ih := squares_at x ho r k n (Nat.le_of_succ_le h)
    pointwise [squares, lanes]
    exact congrArg (fun a : EReal => a + _) ih

/-- The factor of a row. -/
theorem rowFactor_at (x : FVec Ideal S1024x8192 .bf16) {o : ℕ} (ho : o + 128 ≤ 1024) (r : Fin 128) :
    (rowFactor (F := Ideal) x ho (ix2 r 0)) = invRms (∑ k : Fin 8192, x (ix2 ⟨o + r.val, by omega⟩ k) * x (ix2 ⟨o + r.val, by omega⟩ k)) * ((root : ℝ) : EReal) := by
  pointwise [rowFactor]
  unfold invRms
  rw [bits_inv_8192, bits_eps, bits_root]
  have e : ∑ k : Fin 128, squares (F := Ideal) x ho 64 (le_refl _) (ix2 r k)
      = ∑ k : Fin 8192, x (ix2 ⟨o + r.val, by omega⟩ k) * x (ix2 ⟨o + r.val, by omega⟩ k) := by
    rw [Fin.sum_univ_tiles 64 128 rfl (fun k : Fin 8192 => x (ix2 ⟨o + r.val, by omega⟩ k) * x (ix2 ⟨o + r.val, by omega⟩ k)), Finset.sum_comm]
    refine Finset.sum_congr rfl fun k _ => ((squares_at x ho r k 64 (le_refl _))).trans (Finset.sum_congr rfl fun j _ => ?_)
    have h : (⟨128 * j.val + k.val, by omega⟩ : Fin 8192) = ⟨j.val * 128 + k.val, by omega⟩ := Fin.ext (by simp; omega)
    rw [h]
  exact congrArg (fun q : EReal => Ideal.rsqrt (q * ((1 / 8192 : ℝ) : EReal) + (eps : EReal)) * ((root : ℝ) : EReal)) e

/-- A stored piece is a part of the rotated rows. -/
theorem piece_at (x : FVec Ideal S1024x8192 .bf16) (sg : FVec Ideal S256x256 .bf16) {o : ℕ} (ho : o + 128 ≤ 1024) (n : ℕ) (hn : n < 32) (r : Fin 128) (l : Fin 256) :
    piece (F := Ideal) x sg ho n hn (ix2 r l) = rotBlock x sg ⟨o + r.val, by omega⟩ ⟨256 * n + l.val, by omega⟩ := by
  pointwise [piece, lanes]
  unfold rotBlock
  refine congrArg₂ (fun a b : EReal => a * b) (congrArg₂ (fun a b : EReal => a + b) ?_ ?_) (rowFactor_at x ho r)
  all_goals
    refine Finset.sum_congr rfl fun k _ => congrArg₂ (fun a b : EReal => a * b) (congrArg x ?_) (congrArg sg ?_)
    · exact (ix2_inj ..).2 ⟨rfl, Fin.ext (by simp; omega)⟩
    · exact (ix2_inj ..).2 ⟨rfl, Fin.ext (by simp; omega)⟩

end Cert.KernelIdeal.Gen
-- ==== Proof.Scratch.lean ====
module

public import proofs.«01_k».proof.Proof.RotateValue
public import Idealize.ShloMosaic.Lib.Pipeline.ReadBack

/-! # The scratch after the rotation loop -/

@[expose] public section

set_option maxRecDepth 16384

noncomputable section

namespace Cert.KernelIdeal.Gen

open Idealize.ShloMosaic Idealize.ShloMosaic.TcCoe
open Idealize.SL.Sem
open Cert.Common

/-- The rotated rows as an array. -/
def rotArr (x : FVec Ideal S1024x8192 .bf16) (sg : FVec Ideal S256x256 .bf16) : FVec Ideal S1024x8192 .bf16 :=
  fun y => rotBlock x sg (y 0) (y 1)

/-- Every piece of a trip is a part of the rotated rows. -/
theorem pieces_of (x : FVec Ideal S1024x8192 .bf16) (sg : FVec Ideal S256x256 .bf16) {o : ℕ} (ho : o + 128 ≤ 1024) :
    ∀ (n : ℕ) (hn : n ≤ 32), ∀ p ∈ pieces (F := Ideal) x sg ho n hn, ∀ z, p.2 z = rotArr x sg (p.1.emb z)
  | 0, _, p, hp => absurd hp (List.not_mem_nil)
  | n + 1, h, p, hp => by
    rcases List.mem_cons.mp hp with rfl | hp
    · intro z
      have hz : z = ix2 (n0 := 128) (n1 := 256) (z 0) (z 1) := eq_ix2 z
      refine (congrArg (piece (F := Ideal) x sg ho n h) hz).trans ((piece_at x sg ho n h (z 0) (z 1)).trans ?_)
      refine congrArg₂ (rotBlock x sg) (Fin.ext ?_) (Fin.ext ?_)
      · show o + (z 0).val = o + 1 * (z 0).val; omega
      · show 256 * n + (z 1).val = 256 * n + 1 * (z 1).val; omega
    · exact pieces_of x sg ho n (Nat.le_of_succ_le h) p hp

/-- Every piece of the first `k` trips is a part of the rotated rows. -/
theorem loop_of (c : Dev nD) (i : grid0.Coords) (arg2 : Memref sig .tc .vmem S1024x8192 .bf16) (harg2 : arg2.IsWhole) (arg3 : Memref sig .tc .vmem S256x256 .bf16) (harg3 : arg3.IsWhole) (arg4 : Memref sig .tc .vmem S4096x256 .i8) (harg4 : arg4.IsWhole) (arg5 : Memref sig .tc .vmem S4096x256 .i8) (harg5 : arg5.IsWhole) (arg6 : Memref sig .tc .vmem S64x256 .bf16) (harg6 : arg6.IsWhole) (arg7 : Memref sig .tc .vmem S64x256 .bf16) (harg7 : arg7.IsWhole) (arg8 : Memref sig .tc .vmem S1024x256 .bf16) (harg8 : arg8.IsWhole) (arg9 : Memref sig .tc .vmem S1024x8192 .bf16) (harg9 : arg9.IsWhole) (h : k0_cond1 i = 1#1)
    (x0 : FVec Ideal S1024x8192 .bf16) (x1 : FVec Ideal S256x256 .bf16) : ∀ k : ℕ, k ≤ k0_t1_loop.trips →
    ∀ p ∈ pb_k0_t1 (F := Ideal) Variants.none c none i arg2 harg2 arg3 harg3 arg4 harg4 arg5 harg5 arg6 harg6 arg7 harg7 arg8 harg8 arg9 harg9 h (harg2.unread x0) (harg3.unread x1) k,
      ∀ z, p.2 z = rotArr x0 x1 (p.1.emb z)
  | 0, _, p, hp => absurd hp (List.not_mem_nil)
  | k + 1, hk, p, hp => by
    rw [show k + 1 = (⟨k, hk⟩ : Fin k0_t1_loop.trips).val + 1 from rfl, pb_k0_t1_succ, trip_pieces] at hp
    rcases List.mem_append.mp hp with hp | hp
    · exact pieces_of x0 x1 _ 32 (le_refl _) p hp
    · exact loop_of c i arg2 harg2 arg3 harg3 arg4 harg4 arg5 harg5 arg6 harg6 arg7 harg7 arg8 harg8 arg9 harg9 h x0 x1 k (Nat.le_of_succ_le hk) p hp

/-- After the loop the scratch holds the rotated rows. -/
theorem scratch_A (c : Dev nD) (i : grid0.Coords) (arg2 : Memref sig .tc .vmem S1024x8192 .bf16) (harg2 : arg2.IsWhole) (arg3 : Memref sig .tc .vmem S256x256 .bf16) (harg3 : arg3.IsWhole) (arg4 : Memref sig .tc .vmem S4096x256 .i8) (harg4 : arg4.IsWhole) (arg5 : Memref sig .tc .vmem S4096x256 .i8) (harg5 : arg5.IsWhole) (arg6 : Memref sig .tc .vmem S64x256 .bf16) (harg6 : arg6.IsWhole) (arg7 : Memref sig .tc .vmem S64x256 .bf16) (harg7 : arg7.IsWhole) (arg8 : Memref sig .tc .vmem S1024x256 .bf16) (harg8 : arg8.IsWhole) (arg9 : Memref sig .tc .vmem S1024x8192 .bf16) (harg9 : arg9.IsWhole) (hc0 : cond0_0 i)
    (x0 : FVec Ideal S1024x8192 .bf16) (x1 : FVec Ideal S256x256 .bf16) (x2 : Vec Ideal S4096x256 .i8) (x3 : Vec Ideal S4096x256 .i8) (x4 : Vec Ideal S64x256 .bf16) (x5 : Vec Ideal S64x256 .bf16) :
    sout0_A_0 (F := Ideal) c i arg2 harg2 arg3 harg3 arg4 harg4 arg5 harg5 arg6 harg6 arg7 harg7 arg8 harg8 arg9 harg9 hc0 x0 x1 x2 x3 x4 x5 = rotArr x0 x1 := by
  funext y
  unfold sout0_A_0
  rw [View.read_writes_junk_eq_canon]
  have hcov := scover0_A_0 (F := Ideal) c i arg2 harg2 arg3 harg3 arg4 harg4 arg5 harg5 arg6 harg6 arg7 harg7 arg8 harg8 arg9 harg9 hc0 x0 x1 x2 x3 x4 x5 y
  have hL : (kernelRun0_A (F := Ideal) c i arg2 harg2 arg3 harg3 arg4 harg4 arg5 harg5 arg6 harg6 arg7 harg7 arg8 harg8 arg9 harg9 hc0 x0 x1 x2 x3 x4 x5).2.1
      = pb_k0_t1 (F := Ideal) Variants.none c none i arg2 harg2 arg3 harg3 arg4 harg4 arg5 harg5 arg6 harg6 arg7 harg7 arg8 harg8 arg9 harg9 hc0 (harg2.unread x0) (harg3.unread x1) k0_t1_loop.trips := by
    unfold kernelRun0_A
    rfl
  rw [hL] at hcov ⊢
  have key := View.canon_append_of_pieces (rotArr x0 x1) [] _ (loop_of c i arg2 harg2 arg3 harg3 arg4 harg4 arg5 harg5 arg6 harg6 arg7 harg7 arg8 harg8 arg9 harg9 hc0 x0 x1 _ (le_refl _)) y hcov
  rwa [List.append_nil] at key

end Cert.KernelIdeal.Gen
-- ==== Proof.Signs.lean ====
module

public import proofs.«01_k».proof.Proof.Common
public import proofs.«01_k».proof.Proof.Gen.KernelIdeal.Frame
public import Idealize.ShloMosaic.Lib.Pointwise

/-! # The block of signs the host program builds -/

@[expose] public section

set_option maxRecDepth 16384

noncomputable section

namespace Cert.KernelIdeal.Gen

open Idealize.ShloMosaic Idealize.ShloMosaic.TcCoe
open Idealize.SL.Sem
open Cert.Common

section Host

variable {F : FTy → Type} [FloatOps F]

/-- The parity of the number of common bits of row and column. -/
def parity : IVec S128x128 32 :=
  andi (ctpop (andi
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))))
    (broadcastInDim S128x128 ![] bcast_S_S128x128 (constantI S_ 32 1#32))

/-- The signed entries, over 128. -/
def entries : FVec F S128x128 .f32 :=
  Host.divf
    (select (cmpi .eq parity (broadcastInDim S128x128 ![] bcast_S_S128x128 (constantI S_ 32 1#32)))
      (broadcastInDim S128x128 ![] bcast_S_S128x128 (constant S_ .f32 0xBF800000#32))
      (broadcastInDim S128x128 ![] bcast_S_S128x128 (constant S_ .f32 0x3F800000#32)))
    (broadcastInDim S128x128 ![] bcast_S_S128x128 (constant S_ .f32 0x43000000#32))

/-- A block of zeros. -/
def zeros : FVec F S128x128 .f32 := broadcastInDim S128x128 ![] bcast_S_S128x128 (constant S_ .f32 0x00000000#32)

/-- Two blocks next to each other along a new last axis. -/
def pair (a b : FVec F S128x128x1 .f32) : FVec F S128x128x2 .f32 :=
  concatenate S128x128x2 2 [⟨S128x128x1, a⟩, ⟨S128x128x1, b⟩] concatenates_S128x128x1_S128x128x1_S128x128x2_d2

/-- Two blocks one above the other. -/
def above (a b : FVec F S128x256 .f32) : FVec F S256x256 .f32 :=
  concatenate S256x256 0 [⟨S128x256, a⟩, ⟨S128x256, b⟩] concatenates_S128x256_S128x256_S256x256_d0

/-- Two blocks, their columns interleaved. -/
def interleave (a b : FVec F S128x128 .f32) : FVec F S128x256 .f32 :=
  shapeCast S128x256
    (pair (broadcastInDim S128x128x1 ![0, 1] bcast_S128x128_S128x128x1_0_1 a) (broadcastInDim S128x128x1 ![0, 1] bcast_S128x128_S128x128x1_0_1 b))
    shapeCasts_S128x128x2_S128x256

/-- The block of signs: the entries in the even columns of the upper half and in the odd columns of the lower half. -/
def signsArr : FVec F S256x256 .bf16 :=
  truncf .bf16 (above (interleave entries zeros) (interleave zeros entries)) bitsLt_bf16_f32

end Host

/-- The parity of the number of ones among the lowest `n` bits. -/
def par : ℕ → ℕ → Bool
  | 0, _ => false
  | n + 1, w => xor (par n (w / 2)) (decide (w % 2 = 1))

/-- The construction's parity is that of the common bits. -/
theorem flips_eq : ∀ n i j : ℕ, flips n i j = par n (i &&& j)
  | 0, _, _ => rfl
  | n + 1, i, j => by
    rw [flips, par, flips_eq n, Nat.and_div_two]
    have h : decide ((i &&& j) % 2 = 1) = (decide (i % 2 = 1) && decide (j % 2 = 1)) := by
      rw [← Bool.decide_and]
      exact decide_eq_decide.mpr Nat.and_mod_two_eq_one
    rw [h]

/-- The host's count of ones has that parity. -/
theorem count_par : ∀ w : Fin 128, IntOp.cmpi CmpIPredicate.eq (IntOp.andi (IntOp.ctpop (BitVec.ofNat 32 w.val)) 1#32) 1#32
    = (if par 7 w.val then 1#1 else 0#1) := by
  decide +kernel

/-- The host's parity is that of the construction. -/
theorem parity_flips (k l : Fin 128) : IntOp.cmpi CmpIPredicate.eq
    (IntOp.andi (IntOp.ctpop (IntOp.andi (BitVec.ofNat 32 k.val) (BitVec.ofNat 32 l.val))) 1#32) 1#32
      = (if flips 7 k.val l.val then 1#1 else 0#1) := by
  have e : IntOp.andi (BitVec.ofNat 32 k.val) (BitVec.ofNat 32 l.val) = BitVec.ofNat 32 (k.val &&& l.val) :=
    (BitVec.ofNat_and ..).symm
  rw [e, flips_eq]
  exact count_par ⟨k.val &&& l.val, lt_of_le_of_lt Nat.and_le_left k.isLt⟩

/-- An entry. -/
theorem entries_at (k l : Fin 128) : entries (F := Ideal) (ix2 k l) = ((sgn 7 k.val l.val / 128 : ℝ) : EReal) := by
  pointwise [entries, parity]
  rw [bits_128, Ideal.div_coe (by norm_num)]
  have e : Scalar.select (IntOp.cmpi CmpIPredicate.eq
      (IntOp.andi (IntOp.ctpop (IntOp.andi (BitVec.ofNat 32 k.val) (BitVec.ofNat 32 l.val))) 1#32) 1#32)
      (Ideal.ofBits FTy.f32 3212836864#32) (1 : EReal) = ((sgn 7 k.val l.val : ℝ) : EReal) := by
    have h := parity_flips k l
    unfold sgn Scalar.select
    rw [h]
    cases flips 7 k.val l.val
    · rfl
    · exact bits_neg_one
  refine (congrArg (fun a : EReal => a * ((1 / 128 : ℝ) : EReal)) e).trans ?_
  rw [← EReal.coe_mul]
  congr 1; ring

/-- An even column of the interleaved blocks. -/
theorem interleave_even (a b : FVec Ideal S128x128 .f32) (k l : Fin 128) :
    interleave a b (ix2 k ⟨2 * l.val, by omega⟩) = a (ix2 k l) := by
  pointwise [interleave, pair]
  rw [dif_pos (by omega)]

/-- An odd column. -/
theorem interleave_odd (a b : FVec Ideal S128x128 .f32) (k l : Fin 128) :
    interleave a b (ix2 k ⟨2 * l.val + 1, by omega⟩) = b (ix2 k l) := by
  pointwise [interleave, pair]
  rw [dif_neg (by omega)]

/-- Every entry of the zero matrix is zero. -/
theorem zeros_at (k l : Fin 128) : zeros (F := Ideal) (ix2 k l) = 0 := bits_zero

/-- The upper half of the signs, even columns. -/
theorem signs_upper_even (k l : Fin 128) :
    signsArr (F := Ideal) (ix2 ⟨k.val, by omega⟩ ⟨2 * l.val, by omega⟩) = ((sgn 7 k.val l.val / 128 : ℝ) : EReal) := by
  pointwise [signsArr, above]
  exact (interleave_even _ _ k l).trans (entries_at k l)

/-- The upper half of the signs, odd columns. -/
theorem signs_upper_odd (k l : Fin 128) :
    signsArr (F := Ideal) (ix2 ⟨k.val, by omega⟩ ⟨2 * l.val + 1, by omega⟩) = 0 := by
  pointwise [signsArr, above]
  exact (interleave_odd _ _ k l).trans (zeros_at k l)

/-- The lower half of the signs, even columns. -/
theorem signs_lower_even (k l : Fin 128) :
    signsArr (F := Ideal) (ix2 ⟨128 + k.val, by omega⟩ ⟨2 * l.val, by omega⟩) = 0 := by
  pointwise [signsArr, above]
  exact (interleave_even _ _ _ l).trans (zeros_at _ l)

/-- The lower half of the signs, odd columns. -/
theorem signs_lower_odd (k l : Fin 128) :
    signsArr (F := Ideal) (ix2 ⟨128 + k.val, by omega⟩ ⟨2 * l.val + 1, by omega⟩) = ((sgn 7 k.val l.val / 128 : ℝ) : EReal) := by
  pointwise [signsArr, above]
  exact (interleave_odd _ _ _ l).trans ((entries_at _ l).trans (by simp))

end Cert.KernelIdeal.Gen
-- ==== Proof.Block.lean ====
module

public import proofs.«01_k».proof.Proof.Gen.KernelIdeal.Frame
public import Idealize.ShloMosaic.Lib.Pointwise
public import Idealize.ShloMosaic.Lib.Pipeline.ValueKit

/-! # What the kernel body computes at one grid point

The run of the body is opened once and its stored terms are named by a few functions of the blocks: the interleaved
scale rows, one pair of code blocks as numbers, one product, the sum of the first `n` products, the stored tile. -/

@[expose] public section

set_option maxRecDepth 16384

noncomputable section

namespace Cert.KernelIdeal.Gen

open Idealize.ShloMosaic Idealize.ShloMosaic.TcCoe
open Idealize.SL.Sem

variable {F : FTy → Type} [FloatOps F]

/-- The scale rows of one pair of groups lie inside the array of scale rows. -/
theorem slices_pair (g : Fin 32) : S32x2x256.Slices ![g.val, 0, 0] S1x2x256 := by
  revert g; decide

/-- The 256 columns of pair `g` lie inside the rotated rows. -/
theorem inb_cols (g : Fin 32) : ∀ a, (![0, 256 * g.val] : Fin 2 → ℕ) a + S1024x256.size a ≤ S1024x8192.size a := by
  revert g; decide

/-- The 128 rows of packed codes of pair `g` lie inside the block of codes. -/
theorem inb_rows (g : Fin 32) : ∀ a, (![128 * g.val, 0] : Fin 2 → ℕ) a + S128x256.size a ≤ S4096x256.size a := by
  revert g; decide

/-- The scale block's two halves, row `g` of one next to row `g` of the other. -/
def scaleRows (s : Vec F S64x256 .bf16) : FVec F S32x2x256 .bf16 :=
  concatenate S32x2x256 1
    [⟨S32x1x256, shapeCast S32x1x256 (View.ld s (Rect.unit ![0, 0] S32x256.size inb_S64x256_S32x256_0_0)) shapeCasts_S32x256_S32x1x256⟩,
     ⟨S32x1x256, shapeCast S32x1x256 (View.ld s (Rect.unit ![32, 0] S32x256.size inb_S64x256_S32x256_32_0)) shapeCasts_S32x256_S32x1x256⟩]
    concatenates_S32x1x256_S32x1x256_S32x2x256_d1

/-- Code rows `128 g … 128 g + 127` as numbers, low and high nibble in neighbouring rows, times their scales. -/
def weights (w : FVec F S32x2x256 .bf16) (q : Vec F S4096x256 .i8) (g : Fin 32) : FVec F S256x256 .bf16 :=
  mulf
    (sitofp .bf16 (shrsi
      (shapeCast S256x256
        (concatenate S128x2x256 1
          [⟨S128x1x256, shapeCast S128x1x256 (shli (extui 32 (View.ld q (Rect.unit ![128 * g.val, 0] S128x256.size (inb_rows g))) natLt_8_32) (broadcast S128x256 28#32)) shapeCasts_S128x256_S128x1x256⟩,
           ⟨S128x1x256, shapeCast S128x1x256 (shli (extui 32 (View.ld q (Rect.unit ![128 * g.val, 0] S128x256.size (inb_rows g))) natLt_8_32) (broadcast S128x256 24#32)) shapeCasts_S128x256_S128x1x256⟩]
          concatenates_S128x1x256_S128x1x256_S128x2x256_d1)
        shapeCasts_S128x2x256_S256x256)
      (broadcast S256x256 28#32)))
    (shapeCast S256x256
      (broadcastTo S128x2x256
        (shapeCast S1x2x256 (extractStridedSlice S1x2x256 ![g.val, 0, 0] w (slices_pair g)) shapeCasts_S1x2x256_S1x2x256)
        broadcasts_S1x2x256_S128x2x256)
      shapeCasts_S128x2x256_S256x256)

/-- The product of the rotated rows' columns `256 g … 256 g + 255` with the weights of pair `g`. -/
def product (x : Vec F S1024x8192 .bf16) (w : FVec F S32x2x256 .bf16) (q : Vec F S4096x256 .i8) (g : Fin 32) : FVec F S1024x256 .f32 :=
  matmul dot_S1024x256_S256x256_S1024x256_1_0_0_1_n_n none
    (View.ld x (Rect.unit ![0, 256 * g.val] S1024x256.size (inb_cols g))) (weights w q g) (constant S1024x256 .f32 0x00000000#32)

/-- The sum of the products of pairs `0 … n`, added in that order. -/
def sumTo (x : Vec F S1024x8192 .bf16) (w : FVec F S32x2x256 .bf16) (q : Vec F S4096x256 .i8) : (n : ℕ) → n < 32 → FVec F S1024x256 .f32
  | 0, h => product x w q ⟨0, h⟩
  | n + 1, h => addf (sumTo x w q n (Nat.lt_of_succ_lt h)) (product x w q ⟨n + 1, h⟩)

/-- The stored tile from the two sums. -/
def tileOf (gate up : FVec F S1024x256 .f32) : FVec F S1024x256 .bf16 :=
  truncf .bf16 (mulf (mulf gate (logistic gate)) up) bitsLt_bf16_f32

/-- The tile a point stores, from the rotated rows, its two code blocks and its two scale blocks. -/
def tile (x : Vec F S1024x8192 .bf16) (q2 q3 : Vec F S4096x256 .i8) (s4 s5 : Vec F S64x256 .bf16) : FVec F S1024x256 .bf16 :=
  tileOf (sumTo x (scaleRows s4) q2 31 (by decide)) (sumTo x (scaleRows s5) q3 31 (by decide))

/-- A load of a box after a list of stores reads the stores there. -/
theorem readCov_ld {sig : RefSig} {κ : Kind} {sp : Space} {s : Shape} {e : EltTy} (v : View sig κ sp s e)
    (L : List (View.Piece (Elt F) s e)) (r : Rect s) : v.readCov L r.toLoadRect = View.ld (View.canon L) r :=
  View.readCov_eq_canon' v L _

/-- Where the rotated rows are carried over from the point before, the point stores `tile` of them. -/
theorem out_B (c : Dev nD) (i : grid0.Coords) (arg2 : Memref sig .tc .vmem S1024x8192 .bf16) (harg2 : arg2.IsWhole) (arg3 : Memref sig .tc .vmem S256x256 .bf16) (harg3 : arg3.IsWhole) (arg4 : Memref sig .tc .vmem S4096x256 .i8) (harg4 : arg4.IsWhole) (arg5 : Memref sig .tc .vmem S4096x256 .i8) (harg5 : arg5.IsWhole) (arg6 : Memref sig .tc .vmem S64x256 .bf16) (harg6 : arg6.IsWhole) (arg7 : Memref sig .tc .vmem S64x256 .bf16) (harg7 : arg7.IsWhole) (arg8 : Memref sig .tc .vmem S1024x256 .bf16) (harg8 : arg8.IsWhole) (arg9 : Memref sig .tc .vmem S1024x8192 .bf16) (harg9 : arg9.IsWhole) (hc0 : ¬cond0_0 i)
    (x0 : Vec F S1024x8192 .bf16) (x1 : Vec F S256x256 .bf16) (x2 : Vec F S4096x256 .i8) (x3 : Vec F S4096x256 .i8) (x4 : Vec F S64x256 .bf16) (x5 : Vec F S64x256 .bf16) (xs0 : Vec F S1024x8192 .bf16) :
    out0_B_6 c i arg2 harg2 arg3 harg3 arg4 harg4 arg5 harg5 arg6 harg6 arg7 harg7 arg8 harg8 arg9 harg9 hc0 x0 x1 x2 x3 x4 x5 xs0 = tile xs0 x2 x3 x4 x5 := by
  unfold out0_B_6
  rw [View.read_writes_junk_eq_canon]
  unfold kernelRun0_B
  dsimp only
  sl_unfold_words
  simp only [View.readAt_eq_ld, harg2.read_unread, harg3.read_unread, harg4.read_unread, harg5.read_unread, harg6.read_unread, harg7.read_unread, harg8.read_unread, harg9.read_unread]
  rw [View.canon_unit_zero (by decide)]
  rfl

/-- Where the rotated rows are computed at the point itself, it stores `tile` of those. -/
theorem out_A (c : Dev nD) (i : grid0.Coords) (arg2 : Memref sig .tc .vmem S1024x8192 .bf16) (harg2 : arg2.IsWhole) (arg3 : Memref sig .tc .vmem S256x256 .bf16) (harg3 : arg3.IsWhole) (arg4 : Memref sig .tc .vmem S4096x256 .i8) (harg4 : arg4.IsWhole) (arg5 : Memref sig .tc .vmem S4096x256 .i8) (harg5 : arg5.IsWhole) (arg6 : Memref sig .tc .vmem S64x256 .bf16) (harg6 : arg6.IsWhole) (arg7 : Memref sig .tc .vmem S64x256 .bf16) (harg7 : arg7.IsWhole) (arg8 : Memref sig .tc .vmem S1024x256 .bf16) (harg8 : arg8.IsWhole) (arg9 : Memref sig .tc .vmem S1024x8192 .bf16) (harg9 : arg9.IsWhole) (hc0 : cond0_0 i)
    (x0 : Vec F S1024x8192 .bf16) (x1 : Vec F S256x256 .bf16) (x2 : Vec F S4096x256 .i8) (x3 : Vec F S4096x256 .i8) (x4 : Vec F S64x256 .bf16) (x5 : Vec F S64x256 .bf16) :
    out0_A_6 c i arg2 harg2 arg3 harg3 arg4 harg4 arg5 harg5 arg6 harg6 arg7 harg7 arg8 harg8 arg9 harg9 hc0 x0 x1 x2 x3 x4 x5
      = tile (sout0_A_0 c i arg2 harg2 arg3 harg3 arg4 harg4 arg5 harg5 arg6 harg6 arg7 harg7 arg8 harg8 arg9 harg9 hc0 x0 x1 x2 x3 x4 x5) x2 x3 x4 x5 := by
  unfold out0_A_6 sout0_A_0
  rw [View.read_writes_junk_eq_canon, View.read_writes_junk_eq_canon]
  unfold kernelRun0_A
  dsimp only
  sl_unfold_words
  simp only [readCov_ld, View.readAt_eq_ld, harg2.read_unread, harg3.read_unread, harg4.read_unread, harg5.read_unread, harg6.read_unread, harg7.read_unread, harg8.read_unread, harg9.read_unread]
  rw [View.canon_unit_zero (by decide)]
  rfl

end Cert.KernelIdeal.Gen
-- ==== Proof.BlockValue.lean ====
module

public import proofs.«01_k».proof.Proof.Common
public import proofs.«01_k».proof.Proof.Block

/-! # The stored tile, entry by entry -/

@[expose] public section

set_option maxRecDepth 16384

noncomputable section

namespace Cert.KernelIdeal.Gen

open Idealize.ShloMosaic Idealize.ShloMosaic.TcCoe
open Idealize.SL.Sem
open Cert.Common

/-- A scale row: entry `p` of pair `g` is row `g` of half `p`. -/
theorem scaleRows_at (s : FVec Ideal S64x256 .bf16) (g : Fin 32) (p : Fin 2) (c : Fin 256) :
    scaleRows (F := Ideal) s (ix3 g p c) = s (ix2 ⟨32 * p.val + g.val, by omega⟩ c) := by
  pointwise [scaleRows]
  by_cases h : p.val < 1
  · rw [dif_pos h]; exact congrArg s ((ix2_inj ..).2 ⟨Fin.ext (by simp; omega), rfl⟩)
  · rw [dif_neg h]; exact congrArg s ((ix2_inj ..).2 ⟨Fin.ext (by simp; omega), rfl⟩)

/-- Of every byte: moved up by 28 bits and back down with its sign, a word keeps its low four bits as a signed number. -/
theorem low_bits : ∀ n : Fin 256, BitVec.toInt
    (IntOp.shrsi ArithUnit.vector (IntOp.shli ArithUnit.vector (BitVec.setWidth 32 (BitVec.ofFin (w := 8) n)) 28#32) 28#32)
      = lowVal (BitVec.ofFin n) := by
  decide +kernel

/-- Of every byte: moved up by 24 bits and then down by 28 with its sign, a word keeps the high four bits of the byte as a signed number. -/
theorem high_bits : ∀ n : Fin 256, BitVec.toInt
    (IntOp.shrsi ArithUnit.vector (IntOp.shli ArithUnit.vector (BitVec.setWidth 32 (BitVec.ofFin (w := 8) n)) 24#32) 28#32)
      = highVal (BitVec.ofFin n) := by
  decide +kernel

/-- An even row of the weights of pair `g`: a low nibble times a scale of the first half. -/
theorem weights_even (s : FVec Ideal S64x256 .bf16) (q : Vec Ideal S4096x256 .i8) (g : Fin 32) (k : Fin 128) (c : Fin 256) :
    weights (F := Ideal) (scaleRows s) q g (ix2 ⟨2 * k.val, by omega⟩ c)
      = ((lowVal (q (ix2 ⟨128 * g.val + k.val, by omega⟩ c)) : ℝ) : EReal) * s (ix2 ⟨g.val, by omega⟩ c) := by
  pointwise [weights]
  rw [dif_pos (by omega)]
  refine congrArg₂ (fun a b : EReal => a * b) ((congrArg (fun a : ℤ => ((a : ℝ) : EReal)) (low_bits (q _).toFin)).trans ?_) ((scaleRows_at s g _ c).trans ?_)
  · exact congrArg (fun i => ((lowVal (q i) : ℝ) : EReal)) ((ix2_inj ..).2 ⟨Fin.ext (by simp), rfl⟩)
  · exact congrArg s ((ix2_inj ..).2 ⟨Fin.ext (by simp), rfl⟩)

/-- An odd row: a high nibble times a scale of the second half. -/
theorem weights_odd (s : FVec Ideal S64x256 .bf16) (q : Vec Ideal S4096x256 .i8) (g : Fin 32) (k : Fin 128) (c : Fin 256) :
    weights (F := Ideal) (scaleRows s) q g (ix2 ⟨2 * k.val + 1, by omega⟩ c)
      = ((highVal (q (ix2 ⟨128 * g.val + k.val, by omega⟩ c)) : ℝ) : EReal) * s (ix2 ⟨32 + g.val, by omega⟩ c) := by
  pointwise [weights]
  rw [dif_neg (by omega)]
  refine congrArg₂ (fun a b : EReal => a * b) ((congrArg (fun a : ℤ => ((a : ℝ) : EReal)) (high_bits (q _).toFin)).trans ?_) ((scaleRows_at s g _ c).trans ?_)
  · exact congrArg (fun i => ((highVal (q i) : ℝ) : EReal)) ((ix2_inj ..).2 ⟨Fin.ext (by simp), rfl⟩)
  · exact congrArg s ((ix2_inj ..).2 ⟨Fin.ext (by simp), rfl⟩)

/-- An entry of one product. -/
theorem product_at (x : FVec Ideal S1024x8192 .bf16) (w : FVec Ideal S32x2x256 .bf16) (q : Vec Ideal S4096x256 .i8) (g : Fin 32) (r : Fin 1024) (c : Fin 256) :
    product (F := Ideal) x w q g (ix2 r c) = ∑ k : Fin 256, x (ix2 r ⟨256 * g.val + k.val, by omega⟩) * weights (F := Ideal) w q g (ix2 k c) := by
  pointwise [product]

/-- An entry of the sum of the products. -/
theorem sumTo_at (x : FVec Ideal S1024x8192 .bf16) (w : FVec Ideal S32x2x256 .bf16) (q : Vec Ideal S4096x256 .i8) (r : Fin 1024) (c : Fin 256) : ∀ (n : ℕ) (hn : n < 32),
    sumTo (F := Ideal) x w q n hn (ix2 r c) = ∑ g : Fin (n + 1), product (F := Ideal) x w q ⟨g.val, by omega⟩ (ix2 r c)
  | 0, _ => by rw [Fin.sum_univ_one]; rfl
  | n + 1, h => by
    rw [Fin.sum_univ_castSucc]
    exact congrArg (fun a : EReal => a + _) (sumTo_at x w q r c n (Nat.lt_of_succ_lt h))

/-- An entry of the stored tile from the two sums. -/
theorem tileOf_at (g u : FVec Ideal S1024x256 .f32) (r : Fin 1024) (c : Fin 256) :
    tileOf (F := Ideal) g u (ix2 r c) = gated (g (ix2 r c)) (u (ix2 r c)) := by
  pointwise [tileOf]
  rfl

/-- An entry of the whole sum, when the rows are those of `y` with its two halves interleaved by runs of 128. -/
theorem sum_at (x : FVec Ideal S1024x8192 .bf16) (s : FVec Ideal S64x256 .bf16) (q : Vec Ideal S4096x256 .i8) (r : Fin 1024) (c : Fin 256)
    (y : Fin 8192 → EReal)
    (hy0 : ∀ (g : Fin 32) (k : Fin 128), x (ix2 r ⟨256 * g.val + 2 * k.val, by omega⟩) = y ⟨128 * g.val + k.val, by omega⟩)
    (hy1 : ∀ (g : Fin 32) (k : Fin 128), x (ix2 r ⟨256 * g.val + (2 * k.val + 1), by omega⟩) = y ⟨4096 + (128 * g.val + k.val), by omega⟩) :
    sumTo (F := Ideal) x (scaleRows s) q 31 (by decide) (ix2 r c) = dotCol y (fun k => q (ix2 k c)) (fun k => s (ix2 k c)) := by
  rw [sumTo_at, ← dotCol_pairs y (fun l => x (ix2 r l)) (fun k => q (ix2 k c)) (fun k => s (ix2 k c))
    (fun g k => weights (F := Ideal) (scaleRows s) q g (ix2 k c)) hy0 hy1 (fun g k => weights_even s q g k c) (fun g k => weights_odd s q g k c)]
  exact Finset.sum_congr rfl fun g _ => product_at x _ q g r c

end Cert.KernelIdeal.Gen
-- ==== Proof.Tile.lean ====
module

public import proofs.«01_k».proof.Proof.Scratch
public import proofs.«01_k».proof.Proof.Signs
public import proofs.«01_k».proof.Proof.BlockValue

/-! # The stored tile as a function of the blocks

With the host's signs, the rotated rows are the normalised Hadamard rotation with the two halves of a row interleaved
by runs of 128, and an entry of the tile is the gated product of such a row with two columns of weights. -/

@[expose] public section

set_option maxRecDepth 16384

noncomputable section

namespace Cert.KernelIdeal.Gen

open Idealize.ShloMosaic Idealize.ShloMosaic.TcCoe
open Idealize.SL.Sem
open Cert.Common

/-- An even column of a run of 256 holds a rotated entry of the lower half of the row. -/
theorem rot_even (x : FVec Ideal S1024x8192 .bf16) (r : Fin 1024) (g : Fin 32) (k : Fin 128) :
    rotBlock x (signsArr (F := Ideal)) r ⟨256 * g.val + 2 * k.val, by omega⟩ = rotRow (fun l => x (ix2 r l)) ⟨128 * g.val + k.val, by omega⟩ := by
  unfold rotBlock rotRow
  rw [← rotate_eq (sumSq_nonneg _)]
  refine congrArg (fun a : EReal => a * _) ?_
  have e0 : (∑ j : Fin 128, x (ix2 r ⟨128 * (32 + (256 * g.val + 2 * k.val) / 256) + j.val, by omega⟩)
      * signsArr (F := Ideal) (ix2 ⟨128 + j.val, by omega⟩ ⟨(256 * g.val + 2 * k.val) % 256, by omega⟩)) = 0 := by
    refine Finset.sum_eq_zero fun j _ => ?_
    have h : signsArr (F := Ideal) (ix2 ⟨128 + j.val, by omega⟩ ⟨(256 * g.val + 2 * k.val) % 256, by omega⟩) = 0 := by
      refine .trans (congrArg (signsArr (F := Ideal)) ?_) (signs_lower_even j k)
      exact (ix2_inj ..).2 ⟨rfl, Fin.ext (by simp; omega)⟩
    exact (congrArg (fun a : EReal => _ * a) h).trans (mul_zero _)
  refine (congrArg (fun a : EReal => _ + a) e0).trans ((add_zero _).trans ?_)
  refine Finset.sum_congr rfl fun j _ => congrArg₂ (fun a b : EReal => a * b) (congrArg x ?_) ?_
  · exact (ix2_inj ..).2 ⟨rfl, Fin.ext (by simp; omega)⟩
  · refine (congrArg (signsArr (F := Ideal)) ?_).trans ((signs_upper_even j k).trans ?_)
    · exact (ix2_inj ..).2 ⟨rfl, Fin.ext (by simp; omega)⟩
    · have h : (128 * g.val + k.val) % 128 = k.val := by omega
      show _ = ((sgn 7 j.val ((128 * g.val + k.val) % 128) / 128 : ℝ) : EReal)
      rw [h]

/-- An odd column holds one of the upper half. -/
theorem rot_odd (x : FVec Ideal S1024x8192 .bf16) (r : Fin 1024) (g : Fin 32) (k : Fin 128) :
    rotBlock x (signsArr (F := Ideal)) r ⟨256 * g.val + (2 * k.val + 1), by omega⟩ = rotRow (fun l => x (ix2 r l)) ⟨4096 + (128 * g.val + k.val), by omega⟩ := by
  unfold rotBlock rotRow
  rw [← rotate_eq (sumSq_nonneg _)]
  refine congrArg (fun a : EReal => a * _) ?_
  have e0 : (∑ j : Fin 128, x (ix2 r ⟨128 * ((256 * g.val + (2 * k.val + 1)) / 256) + j.val, by omega⟩)
      * signsArr (F := Ideal) (ix2 ⟨j.val, by omega⟩ ⟨(256 * g.val + (2 * k.val + 1)) % 256, by omega⟩)) = 0 := by
    refine Finset.sum_eq_zero fun j _ => ?_
    have h : signsArr (F := Ideal) (ix2 ⟨j.val, by omega⟩ ⟨(256 * g.val + (2 * k.val + 1)) % 256, by omega⟩) = 0 := by
      refine .trans (congrArg (signsArr (F := Ideal)) ?_) (signs_upper_odd j k)
      exact (ix2_inj ..).2 ⟨rfl, Fin.ext (by simp; omega)⟩
    exact (congrArg (fun a : EReal => _ * a) h).trans (mul_zero _)
  refine (congrArg (fun a : EReal => a + _) e0).trans ((zero_add _).trans ?_)
  refine Finset.sum_congr rfl fun j _ => congrArg₂ (fun a b : EReal => a * b) (congrArg x ?_) ?_
  · exact (ix2_inj ..).2 ⟨rfl, Fin.ext (by simp; omega)⟩
  · refine (congrArg (signsArr (F := Ideal)) ?_).trans ((signs_lower_odd j k).trans ?_)
    · exact (ix2_inj ..).2 ⟨rfl, Fin.ext (by simp; omega)⟩
    · have h : (4096 + (128 * g.val + k.val)) % 128 = k.val := by omega
      show _ = ((sgn 7 j.val ((4096 + (128 * g.val + k.val)) % 128) / 128 : ℝ) : EReal)
      rw [h]

/-- An entry of the tile. -/
theorem tile_at (x : FVec Ideal S1024x8192 .bf16) (q2 q3 : Vec Ideal S4096x256 .i8) (s4 s5 : FVec Ideal S64x256 .bf16)
    (r : Fin 1024) (c : Fin 256) :
    tile (F := Ideal) (rotArr x signsArr) q2 q3 s4 s5 (ix2 r c)
      = gated (dotCol (rotRow fun k => x (ix2 r k)) (fun k => q2 (ix2 k c)) (fun k => s4 (ix2 k c)))
          (dotCol (rotRow fun k => x (ix2 r k)) (fun k => q3 (ix2 k c)) (fun k => s5 (ix2 k c))) := by
  unfold tile
  rw [tileOf_at, sum_at (rotArr x signsArr) s4 q2 r c (rotRow fun k => x (ix2 r k)) (rot_even x r) (rot_odd x r),
    sum_at (rotArr x signsArr) s5 q3 r c (rotRow fun k => x (ix2 r k)) (rot_even x r) (rot_odd x r)]

end Cert.KernelIdeal.Gen
-- ==== Proof.HostRun.lean ====
module

public import proofs.«01_k».proof.Proof.Signs
public import proofs.«01_k».proof.Proof.Gen.KernelIdeal.Frame
public import Idealize.ShloMosaic.Lib.Pointwise
public import Idealize.ShloMosaic.Lib.StableHlo.Run

/-! # What the host program hands to the kernel

The rows as one array of 4096, and the block of signs. -/

@[expose] public section

set_option maxRecDepth 16384

noncomputable section

namespace Cert.KernelIdeal.Gen

open Idealize.ShloMosaic Idealize.ShloMosaic.TcCoe
open Idealize.SL.Sem Idealize.ShloMosaic.StableHlo
open Cert.Common

section Host

variable {F : FTy → Type} [FloatOps F]

/-- The operation that sets two blocks next to each other, by its name. -/
theorem pair_fun : ((fun a b => concatenate S128x128x2 2 [⟨S128x128x1, a⟩, ⟨S128x128x1, b⟩] concatenates_S128x128x1_S128x128x1_S128x128x2_d2) : FVec F S128x128x1 .f32 → FVec F S128x128x1 .f32 → FVec F S128x128x2 .f32) = pair := rfl

/-- The operation that sets two blocks one above the other, by its name. -/
theorem above_fun : ((fun a b => concatenate S256x256 0 [⟨S128x256, a⟩, ⟨S128x256, b⟩] concatenates_S128x256_S128x256_S256x256_d0) : FVec F S128x256 .f32 → FVec F S128x256 .f32 → FVec F S256x256 .f32) = above := rfl

variable (m : (ℓ : Loc nD τ sig) → Buf (Elt F) ℓ)

/-- The rows the kernel is handed. -/
theorem V_rows (c : Dev nD) : V m c main_v0 = shapeCast S4096x8192 (m ((c : Thread nD τ).loc main_arg0)) shapeCasts_S2x2048x8192_S4096x8192 := by
  unfold_abbrev_sides
  simp only [hostOps0, hostOps0_1, hostOps0_2, List.flatten_cons, List.flatten_nil, List.append_nil, List.cons_append, List.nil_append, TRef.binary, TRef.nullary, TRef.reshape, TRef.ternary, TRef.unary, TRef.toBuf, TRef.ofBuf, cast_eq]
  after_results_simp
  rfl

/-- The signs the kernel is handed. -/
theorem V_signs (c : Dev nD) : V m c main_v25 = signsArr := by
  unfold_abbrev_sides
  simp only [pair_fun, above_fun, hostOps0, hostOps0_1, hostOps0_2, List.flatten_cons, List.flatten_nil, List.append_nil, List.cons_append, List.nil_append, TRef.binary, TRef.nullary, TRef.reshape, TRef.ternary, TRef.unary, TRef.toBuf, TRef.ofBuf, cast_eq]
  after_results_simp
  unfold signsArr interleave entries zeros parity
  rfl

end Host

end Cert.KernelIdeal.Gen
-- ==== Proof.Points.lean ====
module

public import proofs.«01_k».proof.Proof.Tile
public import proofs.«01_k».proof.Proof.HostRun
public import proofs.«01_k».proof.Proof.Gen.KernelIdeal.Value

/-! # The result array

Each point reads its blocks of the arguments and stores one tile; the rotated rows computed at the first point of a
row of tiles are kept through the row. -/

@[expose] public section

set_option maxRecDepth 16384

noncomputable section

namespace Cert.KernelIdeal.Value

open Cert.KernelIdeal Cert.KernelIdeal.Gen Idealize.ShloMosaic Idealize.ShloMosaic.TcCoe Idealize.SL.Sem
open Cert.Common

variable (m : (ℓ : Loc nD τ sig) → Buf (Elt Ideal) ℓ)

/-- The rows of the input at grid point `t` are the block of rows `t / 44`. -/
theorem idx0 : ∀ t : Fin cfg0.N, win0_0.index t (0 : Fin 2) = t.val / 44 ∧ win0_0.index t (1 : Fin 2) = 0 :=
  (by decide +kernel : ∀ t : Fin grid0.N, _)
/-- Every grid point sees the whole matrix of signs. -/
theorem idx1 : ∀ t : Fin cfg0.N, win0_1.index t (0 : Fin 2) = 0 ∧ win0_1.index t (1 : Fin 2) = 0 :=
  (by decide +kernel : ∀ t : Fin grid0.N, _)
/-- The gate codes at grid point `t` are the block of columns `t % 44`. -/
theorem idx2 : ∀ t : Fin cfg0.N, win0_2.index t (0 : Fin 2) = 0 ∧ win0_2.index t (1 : Fin 2) = t.val % 44 :=
  (by decide +kernel : ∀ t : Fin grid0.N, _)
/-- The up codes at grid point `t` are the block of columns `44 + t % 44`. -/
theorem idx3 : ∀ t : Fin cfg0.N, win0_3.index t (0 : Fin 2) = 0 ∧ win0_3.index t (1 : Fin 2) = 44 + t.val % 44 :=
  (by decide +kernel : ∀ t : Fin grid0.N, _)
/-- The gate scales at grid point `t` are the block of columns `t % 44`. -/
theorem idx4 : ∀ t : Fin cfg0.N, win0_4.index t (0 : Fin 2) = 0 ∧ win0_4.index t (1 : Fin 2) = t.val % 44 :=
  (by decide +kernel : ∀ t : Fin grid0.N, _)
/-- The up scales at grid point `t` are the block of columns `44 + t % 44`. -/
theorem idx5 : ∀ t : Fin cfg0.N, win0_5.index t (0 : Fin 2) = 0 ∧ win0_5.index t (1 : Fin 2) = 44 + t.val % 44 :=
  (by decide +kernel : ∀ t : Fin grid0.N, _)

/-- The grid has 176 points. -/
theorem lt_N (t : Fin cfg0.N) : t.val < 176 := lt_of_lt_of_eq t.isLt N_0

/-- Rows `1024 i … 1024 i + 1023` of the array of rows. -/
def rowsAt (c : Dev nD) (i : ℕ) (hi : i < 4) : FVec Ideal S1024x8192 .bf16 :=
  fun y => V m c main_v0 (ix2 ⟨1024 * i + (y 0).val, by have : (y 0).val < 1024 := (y 0).isLt; omega⟩ (y 1) : S4096x8192.Idx)

/-- Blocks of rows with equal numbers are equal. -/
theorem rowsAt_congr (c : Dev nD) {i i' : ℕ} (hi : i < 4) (hi' : i' < 4) (h : i = i') : rowsAt m c i hi = rowsAt m c i' hi' := by
  subst h; rfl

/-- The block of rows at point `t`. -/
theorem iblk0 (c : Dev nD) (t : Fin cfg0.N) : iblk m c 0 t = rowsAt m c (t.val / 44) (by have := lt_N t; omega) := by
  obtain ⟨e0, e1⟩ := idx0 t
  funext y
  show V m c main_v0 (((cfg0.win 0).blk t).view.emb y) = V m c main_v0 _
  refine congrArg (V m c main_v0) ?_
  funext a; apply Fin.ext
  match a with
  | ⟨0, _⟩ => show win0_0.index t (0 : Fin 2) * 1024 + 1 * (y 0).val = 1024 * (t.val / 44) + (y 0).val; rw [e0]; omega
  | ⟨1, _⟩ => show win0_0.index t (1 : Fin 2) * 8192 + 1 * (y 1).val = (y 1).val; rw [e1]; omega

/-- The block of signs at point `t`. -/
theorem iblk1 (c : Dev nD) (t : Fin cfg0.N) : @Eq (FVec Ideal S256x256 .bf16) (iblk m c 1 t) signsArr := by
  obtain ⟨e0, e1⟩ := idx1 t
  rw [← V_signs m c]
  funext y
  show V m c main_v25 (((cfg0.win 1).blk t).view.emb y) = V m c main_v25 y
  refine congrArg (V m c main_v25) ?_
  funext a; apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The codes of the gate columns at point `t`. -/
theorem iblk2 (c : Dev nD) (t : Fin cfg0.N) (k : Fin 4096) (l : Fin 256) :
    iblk m c 2 t (ix2 k l : S4096x256.Idx) = m ((c : Thread nD τ).loc main_arg1) (ix2 k ⟨256 * (t.val % 44) + l.val, by omega⟩ : S4096x22528.Idx) := by
  obtain ⟨e0, e1⟩ := idx2 t
  rw [← V_main_arg1 m c]
  show V m c main_arg1 (((cfg0.win 2).blk t).view.emb _) = V m c main_arg1 _
  refine congrArg (V m c main_arg1) ?_
  funext a; apply Fin.ext
  match a with
  | ⟨0, _⟩ => show win0_2.index t (0 : Fin 2) * 4096 + 1 * k.val = k.val; rw [e0]; omega
  | ⟨1, _⟩ => show win0_2.index t (1 : Fin 2) * 256 + 1 * l.val = 256 * (t.val % 44) + l.val; rw [e1]; omega

/-- The codes of the up columns at point `t`. -/
theorem iblk3 (c : Dev nD) (t : Fin cfg0.N) (k : Fin 4096) (l : Fin 256) :
    iblk m c 3 t (ix2 k l : S4096x256.Idx) = m ((c : Thread nD τ).loc main_arg1) (ix2 k ⟨11264 + (256 * (t.val % 44) + l.val), by omega⟩ : S4096x22528.Idx) := by
  obtain ⟨e0, e1⟩ := idx3 t
  rw [← V_main_arg1 m c]
  show V m c main_arg1 (((cfg0.win 3).blk t).view.emb _) = V m c main_arg1 _
  refine congrArg (V m c main_arg1) ?_
  funext a; apply Fin.ext
  match a with
  | ⟨0, _⟩ => show win0_3.index t (0 : Fin 2) * 4096 + 1 * k.val = k.val; rw [e0]; omega
  | ⟨1, _⟩ => show win0_3.index t (1 : Fin 2) * 256 + 1 * l.val = 11264 + (256 * (t.val % 44) + l.val); rw [e1]; omega

/-- The scales of the gate columns at point `t`. -/
theorem iblk4 (c : Dev nD) (t : Fin cfg0.N) (k : Fin 64) (l : Fin 256) :
    iblk m c 4 t (ix2 k l : S64x256.Idx) = m ((c : Thread nD τ).loc main_arg2) (ix2 k ⟨256 * (t.val % 44) + l.val, by omega⟩ : S64x22528.Idx) := by
  obtain ⟨e0, e1⟩ := idx4 t
  rw [← V_main_arg2 m c]
  show V m c main_arg2 (((cfg0.win 4).blk t).view.emb _) = V m c main_arg2 _
  refine congrArg (V m c main_arg2) ?_
  funext a; apply Fin.ext
  match a with
  | ⟨0, _⟩ => show win0_4.index t (0 : Fin 2) * 64 + 1 * k.val = k.val; rw [e0]; omega
  | ⟨1, _⟩ => show win0_4.index t (1 : Fin 2) * 256 + 1 * l.val = 256 * (t.val % 44) + l.val; rw [e1]; omega

/-- The scales of the up columns at point `t`. -/
theorem iblk5 (c : Dev nD) (t : Fin cfg0.N) (k : Fin 64) (l : Fin 256) :
    iblk m c 5 t (ix2 k l : S64x256.Idx) = m ((c : Thread nD τ).loc main_arg2) (ix2 k ⟨11264 + (256 * (t.val % 44) + l.val), by omega⟩ : S64x22528.Idx) := by
  obtain ⟨e0, e1⟩ := idx5 t
  rw [← V_main_arg2 m c]
  show V m c main_arg2 (((cfg0.win 5).blk t).view.emb _) = V m c main_arg2 _
  refine congrArg (V m c main_arg2) ?_
  funext a; apply Fin.ext
  match a with
  | ⟨0, _⟩ => show win0_5.index t (0 : Fin 2) * 64 + 1 * k.val = k.val; rw [e0]; omega
  | ⟨1, _⟩ => show win0_5.index t (1 : Fin 2) * 256 + 1 * l.val = 11264 + (256 * (t.val % 44) + l.val); rw [e1]; omega

/-- The rotated rows at every point of a row of tiles are those of its block of rows. -/
theorem scratch_at (c : Dev nD) : ∀ (n : ℕ) (hn : n < cfg0.N),
    (outsAt0 m c n hn).2 = rotArr (rowsAt m c (n / 44) (by have := lt_N ⟨n, hn⟩; simp only at this; omega)) signsArr
  | 0, hn => by
    rw [outsAt0_zero, stAt0_A m c ⟨0, hn⟩ _ (Nat.zero_mod _)]
    exact (scratch_A ..).trans (congrArg₂ rotArr (iblk0 m c ⟨0, hn⟩) (iblk1 m c ⟨0, hn⟩))
  | n + 1, hn => by
    rw [outsAt0_succ]
    by_cases h0 : (n + 1) % 44 = 0
    · rw [stAt0_A m c ⟨n + 1, hn⟩ _ h0]
      exact (scratch_A ..).trans (congrArg₂ rotArr (iblk0 m c ⟨n + 1, hn⟩) (iblk1 m c ⟨n + 1, hn⟩))
    · rw [stAt0_B m c ⟨n + 1, hn⟩ _ h0]
      refine (scratch_at c n (Nat.lt_of_succ_lt hn)).trans ?_
      exact congrArg (fun x => rotArr x signsArr) (rowsAt_congr m c _ _ (by omega))

/-- What one point stores is the tile of the rotated rows it leaves in the scratch. -/
theorem step_tile (c : Dev nD) (t : Fin cfg0.N) (acc : Vec Ideal S1024x256 .bf16 × Vec Ideal S1024x8192 .bf16) :
    (stAt0 m c t.val t.isLt acc).1 = tile (F := Ideal) (stAt0 m c t.val t.isLt acc).2 (iblk m c 2 t) (iblk m c 3 t) (iblk m c 4 t) (iblk m c 5 t) := by
  by_cases h0 : t.val % 44 = 0
  · rw [stAt0_A m c t acc h0]
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)
  · rw [stAt0_B m c t acc h0]
    dsimp only
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) acc.2

/-- The tile a point stores. -/
theorem tile_of (c : Dev nD) (n : ℕ) (hn : n < cfg0.N) :
    (outsAt0 m c n hn).1 = tile (F := Ideal) (rotArr (rowsAt m c (n / 44) (by have := lt_N ⟨n, hn⟩; simp only at this; omega)) signsArr)
      (iblk m c 2 ⟨n, hn⟩) (iblk m c 3 ⟨n, hn⟩) (iblk m c 4 ⟨n, hn⟩) (iblk m c 5 ⟨n, hn⟩) := by
  rw [← scratch_at m c n hn]
  cases n with
  | zero =>
    rw [outsAt0_zero]
    exact step_tile m c ⟨0, hn⟩ _
  | succ n =>
    rw [outsAt0_succ]
    exact step_tile m c ⟨n + 1, hn⟩ _

end Cert.KernelIdeal.Value
-- ==== Proof.Result.lean ====
module

public import proofs.«01_k».proof.Proof.Points

/-! # An entry of the result array, from the launched arguments -/

@[expose] public section

set_option maxRecDepth 16384

noncomputable section

namespace Cert.KernelIdeal.Value

open Cert.KernelIdeal Cert.KernelIdeal.Gen Idealize.ShloMosaic Idealize.ShloMosaic.TcCoe Idealize.SL.Sem
open Cert.Common

variable (m : (ℓ : Loc nD τ sig) → Buf (Elt Ideal) ℓ)

/-- Row `r` of the flattened input is row `r % 2048` of batch entry `r / 2048`. -/
theorem shape_rows (x : FVec Ideal S2x2048x8192 .bf16) (r : Fin 4096) (k : Fin 8192) :
    shapeCast S4096x8192 x shapeCasts_S2x2048x8192_S4096x8192 (ix2 r k) = x (ix3 ⟨r.val / 2048, by omega⟩ ⟨r.val % 2048, by omega⟩ k) := by
  pointwise

/-- A row of the array of rows is a row of the argument. -/
theorem V_rows_at (c : Dev nD) (r : Fin 4096) (k : Fin 8192) :
    V m c main_v0 (ix2 r k : S4096x8192.Idx) = m ((c : Thread nD τ).loc main_arg0) (ix3 ⟨r.val / 2048, by omega⟩ ⟨r.val % 2048, by omega⟩ k : S2x2048x8192.Idx) :=
  (congrFun (V_rows m c) _).trans (shape_rows _ r k)

/-- The rows the tile of row `r` is computed from. -/
theorem rowsAt_row (c : Dev nD) (r : Fin 4096) (k : Fin 8192) :
    rowsAt m c (r.val / 1024) (by omega) (ix2 ⟨r.val % 1024, by omega⟩ k)
      = m ((c : Thread nD τ).loc main_arg0) (ix3 ⟨r.val / 2048, by omega⟩ ⟨r.val % 2048, by omega⟩ k : S2x2048x8192.Idx) := by
  rw [← V_rows_at m c r k]
  refine congrArg (V m c main_v0) ((ix2_inj ..).2 ⟨Fin.ext ?_, rfl⟩)
  show 1024 * (r.val / 1024) + r.val % 1024 = r.val
  omega

/-- An entry of the result array. -/
theorem G6_at (c : Dev nD) (r : Fin 4096) (l : Fin 11264) :
    G6 m c (ix2 r l : S4096x11264.Idx)
      = gated
          (dotCol (rotRow fun k => m ((c : Thread nD τ).loc main_arg0) (ix3 ⟨r.val / 2048, by omega⟩ ⟨r.val % 2048, by omega⟩ k : S2x2048x8192.Idx))
            (fun k => m ((c : Thread nD τ).loc main_arg1) (ix2 k ⟨l.val, by omega⟩ : S4096x22528.Idx))
            (fun k => m ((c : Thread nD τ).loc main_arg2) (ix2 k ⟨l.val, by omega⟩ : S64x22528.Idx)))
          (dotCol (rotRow fun k => m ((c : Thread nD τ).loc main_arg0) (ix3 ⟨r.val / 2048, by omega⟩ ⟨r.val % 2048, by omega⟩ k : S2x2048x8192.Idx))
            (fun k => m ((c : Thread nD τ).loc main_arg1) (ix2 k ⟨11264 + l.val, by omega⟩ : S4096x22528.Idx))
            (fun k => m ((c : Thread nD τ).loc main_arg2) (ix2 k ⟨11264 + l.val, by omega⟩ : S64x22528.Idx))) := by
  have hp : pt6Of (ix2 r l : S4096x11264.Idx) = 44 * (r.val / 1024) + l.val / 256 := by
    show 44 * (r.val / 1024 - 0) + 1 * (l.val / 256 - 0) = _; omega
  have hN : pt6Of (ix2 r l : S4096x11264.Idx) < cfg0.N := lt_of_lt_of_eq (by rw [hp]; omega) N_0.symm
  unfold G6
  rw [dif_pos hN, ← outsAt0_sweep m c _ hN, tile_of m c _ hN]
  have hl : loc6Of (ix2 r l : S4096x11264.Idx) = (ix2 (⟨r.val % 1024, by omega⟩ : Fin 1024) (⟨l.val % 256, by omega⟩ : Fin 256)) := by
    funext a; match a with
    | ⟨0, _⟩ => rfl
    | ⟨1, _⟩ => rfl
  rw [hl]
  refine (tile_at _ _ _ _ _ _ _).trans ?_
  have hm : pt6Of (ix2 r l : S4096x11264.Idx) % 44 = l.val / 256 := by rw [hp]; omega
  have hc : ∀ (h : 256 * (pt6Of (ix2 r l : S4096x11264.Idx) % 44) + l.val % 256 < 22528), (⟨256 * (pt6Of (ix2 r l : S4096x11264.Idx) % 44) + l.val % 256, h⟩ : Fin 22528) = ⟨l.val, by omega⟩ :=
    fun _ => Fin.ext (by show 256 * (pt6Of (ix2 r l : S4096x11264.Idx) % 44) + l.val % 256 = l.val; rw [hm]; omega)
  have hu : ∀ (h : 11264 + (256 * (pt6Of (ix2 r l : S4096x11264.Idx) % 44) + l.val % 256) < 22528), (⟨11264 + (256 * (pt6Of (ix2 r l : S4096x11264.Idx) % 44) + l.val % 256), h⟩ : Fin 22528) = ⟨11264 + l.val, by omega⟩ :=
    fun _ => Fin.ext (by show 11264 + (256 * (pt6Of (ix2 r l : S4096x11264.Idx) % 44) + l.val % 256) = 11264 + l.val; rw [hm]; omega)
  have hr : (fun k : Fin 8192 => rowsAt m c (pt6Of (ix2 r l : S4096x11264.Idx) / 44) (by rw [hp]; omega) (ix2 (⟨r.val % 1024, by omega⟩ : Fin 1024) k))
      = fun k => m ((c : Thread nD τ).loc main_arg0) (ix3 ⟨r.val / 2048, by omega⟩ ⟨r.val % 2048, by omega⟩ k : S2x2048x8192.Idx) := by
    funext k
    rw [rowsAt_congr m c _ (by omega) (show pt6Of (ix2 r l : S4096x11264.Idx) / 44 = r.val / 1024 by rw [hp]; omega)]
    exact rowsAt_row m c r k
  refine congrArg₂ gated (congr (congrArg₂ dotCol (congrArg rotRow hr) ?_) ?_) (congr (congrArg₂ dotCol (congrArg rotRow hr) ?_) ?_)
  · funext k; refine (iblk2 m c _ k _).trans ?_; rw [hc]
  · funext k; refine (iblk4 m c _ k _).trans ?_; rw [hc]
  · funext k; refine (iblk3 m c _ k _).trans ?_; rw [hu]
  · funext k; refine (iblk5 m c _ k _).trans ?_; rw [hu]

end Cert.KernelIdeal.Value
-- ==== Proof.Hadamard.lean ====
module

public import proofs.«01_k».proof.Proof.Common
public import proofs.«01_k».proof.Proof.Gen.ReferenceIdeal.Run

/-! # The Hadamard matrix the reference builds

Seven steps, each putting the 2 by 2 matrix into every entry of the matrix before. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Common

section Steps

variable {F : FTy → Type} [FloatOps F]

/-- The 2 by 2 matrix. -/
def base : FVec F S2x2 .f32 := fun i => FloatOps.ofBits .f32 (lit0 (S2x2.rowMajor i))

/-- The Hadamard matrix of size one. -/
def had0 : FVec F S1x1 .f32 := broadcastInDim S1x1 ![] bcast_S_S1x1 (constant S_ .f32 0x3F800000#32)

/-- Step 1 of the construction. -/
def had1 : FVec F S2x2 .f32 :=
  shapeCast S2x2 (mulf
    (broadcastInDim S1x2x1x2 ![0, 1, 2, 3] bcast_S1x1x1x1_S1x2x1x2_0_1_2_3 (broadcastInDim S1x1x1x1 ![0, 2] bcast_S1x1_S1x1x1x1_0_2 had0))
    ((broadcastInDim S1x2x1x2 ![1, 3] bcast_S2x2_S1x2x1x2_1_3 base)))
    shapeCasts_S1x2x1x2_S2x2

/-- Step 2 of the construction. -/
def had2 : FVec F S4x4 .f32 :=
  shapeCast S4x4 (mulf
    (broadcastInDim S2x2x2x2 ![0, 1, 2, 3] bcast_S2x1x2x1_S2x2x2x2_0_1_2_3 (broadcastInDim S2x1x2x1 ![0, 2] bcast_S2x2_S2x1x2x1_0_2 had1))
    (broadcastInDim S2x2x2x2 ![0, 1, 2, 3] bcast_S1x2x1x2_S2x2x2x2_0_1_2_3 (broadcastInDim S1x2x1x2 ![1, 3] bcast_S2x2_S1x2x1x2_1_3 base)))
    shapeCasts_S2x2x2x2_S4x4

/-- Step 3 of the construction. -/
def had3 : FVec F S8x8 .f32 :=
  shapeCast S8x8 (mulf
    (broadcastInDim S4x2x4x2 ![0, 1, 2, 3] bcast_S4x1x4x1_S4x2x4x2_0_1_2_3 (broadcastInDim S4x1x4x1 ![0, 2] bcast_S4x4_S4x1x4x1_0_2 had2))
    (broadcastInDim S4x2x4x2 ![0, 1, 2, 3] bcast_S1x2x1x2_S4x2x4x2_0_1_2_3 (broadcastInDim S1x2x1x2 ![1, 3] bcast_S2x2_S1x2x1x2_1_3 base)))
    shapeCasts_S4x2x4x2_S8x8

/-- Step 4 of the construction. -/
def had4 : FVec F S16x16 .f32 :=
  shapeCast S16x16 (mulf
    (broadcastInDim S8x2x8x2 ![0, 1, 2, 3] bcast_S8x1x8x1_S8x2x8x2_0_1_2_3 (broadcastInDim S8x1x8x1 ![0, 2] bcast_S8x8_S8x1x8x1_0_2 had3))
    (broadcastInDim S8x2x8x2 ![0, 1, 2, 3] bcast_S1x2x1x2_S8x2x8x2_0_1_2_3 (broadcastInDim S1x2x1x2 ![1, 3] bcast_S2x2_S1x2x1x2_1_3 base)))
    shapeCasts_S8x2x8x2_S16x16

/-- Step 5 of the construction. -/
def had5 : FVec F S32x32 .f32 :=
  shapeCast S32x32 (mulf
    (broadcastInDim S16x2x16x2 ![0, 1, 2, 3] bcast_S16x1x16x1_S16x2x16x2_0_1_2_3 (broadcastInDim S16x1x16x1 ![0, 2] bcast_S16x16_S16x1x16x1_0_2 had4))
    (broadcastInDim S16x2x16x2 ![0, 1, 2, 3] bcast_S1x2x1x2_S16x2x16x2_0_1_2_3 (broadcastInDim S1x2x1x2 ![1, 3] bcast_S2x2_S1x2x1x2_1_3 base)))
    shapeCasts_S16x2x16x2_S32x32

/-- Step 6 of the construction. -/
def had6 : FVec F S64x64 .f32 :=
  shapeCast S64x64 (mulf
    (broadcastInDim S32x2x32x2 ![0, 1, 2, 3] bcast_S32x1x32x1_S32x2x32x2_0_1_2_3 (broadcastInDim S32x1x32x1 ![0, 2] bcast_S32x32_S32x1x32x1_0_2 had5))
    (broadcastInDim S32x2x32x2 ![0, 1, 2, 3] bcast_S1x2x1x2_S32x2x32x2_0_1_2_3 (broadcastInDim S1x2x1x2 ![1, 3] bcast_S2x2_S1x2x1x2_1_3 base)))
    shapeCasts_S32x2x32x2_S64x64

/-- Step 7 of the construction. -/
def had7 : FVec F S128x128 .f32 :=
  shapeCast S128x128 (mulf
    (broadcastInDim S64x2x64x2 ![0, 1, 2, 3] bcast_S64x1x64x1_S64x2x64x2_0_1_2_3 (broadcastInDim S64x1x64x1 ![0, 2] bcast_S64x64_S64x1x64x1_0_2 had6))
    (broadcastInDim S64x2x64x2 ![0, 1, 2, 3] bcast_S1x2x1x2_S64x2x64x2_0_1_2_3 (broadcastInDim S1x2x1x2 ![1, 3] bcast_S2x2_S1x2x1x2_1_3 base)))
    shapeCasts_S64x2x64x2_S128x128

/-- The orthonormal matrix: the last step times the reciprocal root of 128. -/
def hadamard : FVec F S128x128 .f32 :=
  mulf had7 (broadcastInDim S128x128 ![] bcast_S_S128x128 (constant S_ .f32 0x3DB504F3#32))

end Steps

/-- The 2 by 2 matrix, entry by entry. -/
theorem base_at (i j : Fin 2) : base (F := Ideal) (ix2 i j) = (((if i.val = 1 ∧ j.val = 1 then -1 else 1 : ℝ)) : EReal) := by
  fin_cases i <;> fin_cases j
  · exact bits_one.trans (by simp)
  · exact bits_one.trans (by simp)
  · exact bits_one.trans (by simp)
  · exact bits_neg_one.trans (by simp)

/-- What one step does to an entry. -/
theorem step {n : ℕ} {a b : EReal} {i j : ℕ} (ha : a = ((sgn n (i / 2) (j / 2) : ℝ) : EReal))
    (hb : b = (((if i % 2 = 1 ∧ j % 2 = 1 then -1 else 1 : ℝ)) : EReal)) : a * b = ((sgn (n + 1) i j : ℝ) : EReal) := by
  rw [ha, hb, sgn_succ, EReal.coe_mul]

/-- The entries of the Hadamard matrix of size 1 are the signs `sgn 0`. -/
theorem had0_at (i j : Fin 1) : had0 (F := Ideal) (ix2 i j) = ((sgn 0 i.val j.val : ℝ) : EReal) := bits_one

/-- The entries of the Hadamard matrix of size 2 are the signs `sgn 1`. -/
theorem had1_at (i j : Fin 2) : had1 (F := Ideal) (ix2 i j) = ((sgn 1 i.val j.val : ℝ) : EReal) := by
  pointwise [had1]
  exact step ((had0_at _ _).trans (by simp [sgn_zero])) ((base_at i j).trans (by rw [Nat.mod_eq_of_lt i.isLt, Nat.mod_eq_of_lt j.isLt]))

/-- The entries of the Hadamard matrix of size 4 are the signs `sgn 2`. -/
theorem had2_at (i j : Fin 4) : had2 (F := Ideal) (ix2 i j) = ((sgn 2 i.val j.val : ℝ) : EReal) := by
  pointwise [had2]
  exact step ((had1_at _ _).trans (by simp)) (base_at _ _)

/-- The entries of the Hadamard matrix of size 8 are the signs `sgn 3`. -/
theorem had3_at (i j : Fin 8) : had3 (F := Ideal) (ix2 i j) = ((sgn 3 i.val j.val : ℝ) : EReal) := by
  pointwise [had3]
  exact step ((had2_at _ _).trans (by simp)) (base_at _ _)

/-- The entries of the Hadamard matrix of size 16 are the signs `sgn 4`. -/
theorem had4_at (i j : Fin 16) : had4 (F := Ideal) (ix2 i j) = ((sgn 4 i.val j.val : ℝ) : EReal) := by
  pointwise [had4]
  exact step ((had3_at _ _).trans (by simp)) (base_at _ _)

/-- The entries of the Hadamard matrix of size 32 are the signs `sgn 5`. -/
theorem had5_at (i j : Fin 32) : had5 (F := Ideal) (ix2 i j) = ((sgn 5 i.val j.val : ℝ) : EReal) := by
  pointwise [had5]
  exact step ((had4_at _ _).trans (by simp)) (base_at _ _)

/-- The entries of the Hadamard matrix of size 64 are the signs `sgn 6`. -/
theorem had6_at (i j : Fin 64) : had6 (F := Ideal) (ix2 i j) = ((sgn 6 i.val j.val : ℝ) : EReal) := by
  pointwise [had6]
  exact step ((had5_at _ _).trans (by simp)) (base_at _ _)

/-- The entries of the Hadamard matrix of size 128 are the signs `sgn 7`. -/
theorem had7_at (i j : Fin 128) : had7 (F := Ideal) (ix2 i j) = ((sgn 7 i.val j.val : ℝ) : EReal) := by
  pointwise [had7]
  exact step ((had6_at _ _).trans (by simp)) (base_at _ _)

/-- The orthonormal matrix, entry by entry. -/
theorem hadamard_at (i j : Fin 128) :
    hadamard (F := Ideal) (ix2 i j) = ((sgn 7 i.val j.val : ℝ) : EReal) * ((root / 128 : ℝ) : EReal) := by
  pointwise [hadamard]
  exact congrArg₂ (fun a b : EReal => a * b) (had7_at i j) bits_inv_root

end Cert.ReferenceIdeal.Value
-- ==== Proof.Reference.lean ====
module

public import proofs.«01_k».proof.Proof.Hadamard

/-! # What the reference computes, entry by entry -/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Common

section Stages

variable {F : FTy → Type} [FloatOps F]

/-- The rows divided by their root mean square. -/
def normalised (x : FVec F S2x2048x8192 .bf16) : FVec F S2x2048x8192 .f32 :=
  mulf (extf .f32 x bitsLt_bf16_f32)
    (broadcastInDim S2x2048x8192 ![0, 1, 2] bcast_S2x2048x1_S2x2048x8192_0_1_2
      (Host.rsqrt (addf
        (Host.divf
          (broadcastInDim S2x2048x1 ![0, 1] bcast_S2x2048_S2x2048x1_0_1
            (Host.reduceAdd (mulf (extf .f32 x bitsLt_bf16_f32) (extf .f32 x bitsLt_bf16_f32)) (constant S_ .f32 0x00000000#32) reducesTo_S2x2048x8192_S2x2048_d2 h_S_))
          (broadcastInDim S2x2048x1 ![] bcast_S_S2x2048x1 (constant S_ .f32 0x46000000#32)))
        (broadcastInDim S2x2048x1 ![] bcast_S_S2x2048x1 (constant S_ .f32 0x358637BD#32)))))

/-- The normalised rows, each run of 128 columns times the orthonormal matrix. -/
def rotatedRows (x : FVec F S2x2048x8192 .bf16) : FVec F S2x2048x8192 .bf16 :=
  truncf .bf16
    (shapeCast S2x2048x8192
      (Host.dotGeneral dot_S2x2048x64x128_S128x128_S2x2048x64x128_3_0_012_1_n_n (some .fp32)
        (shapeCast S2x2048x64x128 (normalised x) shapeCasts_S2x2048x8192_S2x2048x64x128) hadamard)
      shapeCasts_S2x2048x64x128_S2x2048x8192)
    bitsLt_bf16_f32

/-- The low nibble of each code. -/
def lowNibble (q : Vec F S4096x22528 .i8) : Vec F S4096x22528 .i32 :=
  andi (extui 32 q natLt_8_32) (broadcastInDim S4096x22528 ![] bcast_S_S4096x22528 (constantI S_ 32 15#32))

/-- The high nibble of each code. -/
def highNibble (q : Vec F S4096x22528 .i8) : Vec F S4096x22528 .i32 :=
  Host.shrsi (extui 32 q natLt_8_32) (broadcastInDim S4096x22528 ![] bcast_S_S4096x22528 (constantI S_ 32 4#32))

/-- A nibble read as a signed number. -/
def signed (v : Vec F S4096x22528 .i32) : FVec F S4096x22528 .bf16 :=
  sitofp .bf16 (select (cmpi .sge v (broadcastInDim S4096x22528 ![] bcast_S_S4096x22528 (constantI S_ 32 8#32)))
    (subi v (broadcastInDim S4096x22528 ![] bcast_S_S4096x22528 (constantI S_ 32 16#32))) v)

/-- The signed numbers times the scale of their group of 128 rows. -/
def scaled (f : FVec F S4096x22528 .bf16) (s : FVec F S32x22528 .bf16) : FVec F S4096x22528 .bf16 :=
  shapeCast S4096x22528
    (mulf (shapeCast S32x128x22528 f shapeCasts_S4096x22528_S32x128x22528)
      (broadcastInDim S32x128x22528 ![0, 1, 2] bcast_S32x1x22528_S32x128x22528_0_1_2 (broadcastInDim S32x1x22528 ![0, 2] bcast_S32x22528_S32x1x22528_0_2 s)))
    shapeCasts_S32x128x22528_S4096x22528

/-- The sum of the two products, of the lower half of the columns and of the upper half. -/
def projected (x : FVec F S2x2048x8192 .bf16) (q : Vec F S4096x22528 .i8) (s : FVec F S64x22528 .bf16) : FVec F S2x2048x22528 .f32 :=
  addf
    (Host.dotGeneral dot_S2x2048x4096_S4096x22528_S2x2048x22528_2_0_01_1_n_n none
      (extractStridedSlice S2x2048x4096 ![0, 0, 0] (rotatedRows x) slices_S2x2048x8192_S2x2048x4096_0_0_0)
      (scaled (signed (lowNibble q)) (extractStridedSlice S32x22528 ![0, 0] s slices_S64x22528_S32x22528_0_0)))
    (Host.dotGeneral dot_S2x2048x4096_S4096x22528_S2x2048x22528_2_0_01_1_n_n none
      (extractStridedSlice S2x2048x4096 ![0, 0, 4096] (rotatedRows x) slices_S2x2048x8192_S2x2048x4096_0_0_4096)
      (scaled (signed (highNibble q)) (extractStridedSlice S32x22528 ![32, 0] s slices_S64x22528_S32x22528_32_0)))

/-- The gate half and the up half combined. -/
def combined (z : FVec F S2x2048x22528 .f32) : FVec F S4096x11264 .bf16 :=
  shapeCast S4096x11264
    (truncf .bf16
      (mulf
        (mulf (extractStridedSlice S2x2048x11264 ![0, 0, 0] z slices_S2x2048x22528_S2x2048x11264_0_0_0)
          (Host.divf (broadcastInDim S2x2048x11264 ![] bcast_S_S2x2048x11264 (constant S_ .f32 0x3F800000#32))
            (addf (broadcastInDim S2x2048x11264 ![] bcast_S_S2x2048x11264 (constant S_ .f32 0x3F800000#32))
              (Host.exp (Host.negf (extractStridedSlice S2x2048x11264 ![0, 0, 0] z slices_S2x2048x22528_S2x2048x11264_0_0_0))))))
        (extractStridedSlice S2x2048x11264 ![0, 0, 11264] z slices_S2x2048x22528_S2x2048x11264_0_0_11264))
      bitsLt_bf16_f32)
    shapeCasts_S2x2048x11264_S4096x11264

/-- The reference's result is these stages, one after another. -/
theorem res_eq (m : (ℓ : Loc nD τ sig) → Buf (Elt F) ℓ) (c : Dev nD) :
    res_main_v65 m c = combined (projected (m ((c.tc : Thread nD τ).loc main_arg0)) (m ((c.tc : Thread nD τ).loc main_arg1)) (m ((c.tc : Thread nD τ).loc main_arg2))) := rfl

end Stages

/-- A rotated entry. -/
theorem rotatedRows_at (x : FVec Ideal S2x2048x8192 .bf16) (b : Fin 2) (t : Fin 2048) (l : Fin 8192) :
    rotatedRows x (ix3 b t l) = rotRow (fun k => x (ix3 b t k)) l := by
  pointwise [rotatedRows, normalised]
  unfold rotRow rotate invRms
  rw [bits_8192, bits_eps, Ideal.div_coe (by norm_num)]
  exact Finset.sum_congr rfl fun k _ => congrArg _ (hadamard_at _ _)

/-- Of every byte: its low four bits, less 16 where they are 8 or more, are those bits as a signed number. -/
theorem low_bits : ∀ n : Fin 256, BitVec.toInt
    (Scalar.select (IntOp.cmpi CmpIPredicate.sge (IntOp.andi (BitVec.setWidth 32 (BitVec.ofFin (w := 8) n)) 15#32) 8#32)
      (IntOp.subi (IntOp.andi (BitVec.setWidth 32 (BitVec.ofFin (w := 8) n)) 15#32) 16#32)
      (IntOp.andi (BitVec.setWidth 32 (BitVec.ofFin (w := 8) n)) 15#32)) = lowVal (BitVec.ofFin n) := by
  decide +kernel

/-- Of every byte: its high four bits, less 16 where they are 8 or more, are those bits as a signed number. -/
theorem high_bits : ∀ n : Fin 256, BitVec.toInt
    (Scalar.select (IntOp.cmpi CmpIPredicate.sge (IntOp.shrsi ArithUnit.host (BitVec.setWidth 32 (BitVec.ofFin (w := 8) n)) 4#32) 8#32)
      (IntOp.subi (IntOp.shrsi ArithUnit.host (BitVec.setWidth 32 (BitVec.ofFin (w := 8) n)) 4#32) 16#32)
      (IntOp.shrsi ArithUnit.host (BitVec.setWidth 32 (BitVec.ofFin (w := 8) n)) 4#32)) = highVal (BitVec.ofFin n) := by
  decide +kernel

/-- A scaled low nibble. -/
theorem low_at (q : Vec Ideal S4096x22528 .i8) (s : FVec Ideal S64x22528 .bf16) (k : Fin 4096) (c : Fin 22528) :
    scaled (signed (lowNibble q)) (extractStridedSlice S32x22528 ![0, 0] s slices_S64x22528_S32x22528_0_0) (ix2 k c)
      = ((lowVal (q (ix2 k c)) : ℝ) : EReal) * s (ix2 ⟨k.val / 128, by omega⟩ c) := by
  pointwise [scaled, signed, lowNibble]
  exact congrArg (fun a : ℤ => ((a : ℝ) : EReal) * _) (low_bits (q (ix2 k c)).toFin)

/-- A scaled high nibble. -/
theorem high_at (q : Vec Ideal S4096x22528 .i8) (s : FVec Ideal S64x22528 .bf16) (k : Fin 4096) (c : Fin 22528) :
    scaled (signed (highNibble q)) (extractStridedSlice S32x22528 ![32, 0] s slices_S64x22528_S32x22528_32_0) (ix2 k c)
      = ((highVal (q (ix2 k c)) : ℝ) : EReal) * s (ix2 ⟨32 + k.val / 128, by omega⟩ c) := by
  pointwise [scaled, signed, highNibble]
  exact congrArg (fun a : ℤ => ((a : ℝ) : EReal) * _) (high_bits (q (ix2 k c)).toFin)

/-- An entry of the projection. -/
theorem projected_at (x : FVec Ideal S2x2048x8192 .bf16) (q : Vec Ideal S4096x22528 .i8) (s : FVec Ideal S64x22528 .bf16)
    (b : Fin 2) (t : Fin 2048) (c : Fin 22528) :
    projected x q s (ix3 b t c) = dotCol (rotRow fun k => x (ix3 b t k)) (fun k => q (ix2 k c)) (fun k => s (ix2 k c)) := by
  pointwise [projected]
  unfold dotCol
  refine congrArg₂ (fun a b : EReal => a + b) ?_ ?_
  · exact Finset.sum_congr rfl fun k _ => congrArg₂ (fun a b : EReal => a * b) (rotatedRows_at x b t _) (low_at q s k c)
  · exact Finset.sum_congr rfl fun k _ => congrArg₂ (fun a b : EReal => a * b) (rotatedRows_at x b t _) (high_at q s k c)

/-- An entry of the reference's result. -/
theorem result_at (x : FVec Ideal S2x2048x8192 .bf16) (q : Vec Ideal S4096x22528 .i8) (s : FVec Ideal S64x22528 .bf16)
    (r : Fin 4096) (c : Fin 11264) :
    combined (projected x q s) (ix2 r c)
      = gated
          (dotCol (rotRow fun k => x (ix3 ⟨r.val / 2048, by omega⟩ ⟨r.val % 2048, by omega⟩ k))
            (fun k => q (ix2 k ⟨c.val, by omega⟩)) (fun k => s (ix2 k ⟨c.val, by omega⟩)))
          (dotCol (rotRow fun k => x (ix3 ⟨r.val / 2048, by omega⟩ ⟨r.val % 2048, by omega⟩ k))
            (fun k => q (ix2 k ⟨11264 + c.val, by omega⟩)) (fun k => s (ix2 k ⟨11264 + c.val, by omega⟩))) := by
  pointwise [combined]
  rw [projected_at, projected_at]
  rfl

end Cert.ReferenceIdeal.Value
-- ==== Proof.Equal.lean ====
/- The equation of the two programs' results, over the extended reals. -/
module

public import proofs.«01_k».proof.Proof.Result
public import proofs.«01_k».proof.Proof.Reference

@[expose] public section

noncomputable section

namespace Cert.Equal

open Idealize.ShloMosaic

/-- From memories that agree on the three arguments, the reference's result and the array that the
    kernel's grid leaves are the same array: at row `r` and channel `c` both are the gated product
    of the rotated row `r` with the dequantised columns `c` and `11264 + c`. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_main_v65 m' c = Cert.KernelIdeal.Value.G6 m c := by
  funext i
  rw [Cert.ReferenceIdeal.Value.res_eq, h0, h1, h2, eq_ix2 i]
  exact (Cert.ReferenceIdeal.Value.result_at _ _ _ (i 0) (i 1)).trans
    (Cert.KernelIdeal.Value.G6_at m c (i 0) (i 1)).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs, leaves its arguments unchanged, and every semaphore counter ends at zero:
    the program has no semaphore at all. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- From memories that agree on the three arguments, kernel and reference end with the same array
    as their result, over the extended reals. -/
theorem same_result : Cert.algebraic_KernelIdeal_ReferenceIdeal := fun m ρ m' ρ' _ hag =>
  ⟨fun c => Cert.KernelIdeal.Value.G6 m c, Cert.KernelIdeal.Value.run m ρ,
    (θ_run Cert.ReferenceIdeal.defs _ _).mono
      (fun r h c => ⟨(h c).1.trans
        (Cert.Equal.results_eq m m' c (hag c).1 (hag c).2.1 (hag c).2.2), (h c).2⟩)
      (Cert.ReferenceIdeal.Value.run m' ρ')⟩

/-- The certificate: the three frames, the ideal program as the kernel's reading over the extended
    reals, and the equality of kernel and reference. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  frame_reference, trivial, same_result⟩

end Cert.Proof

end
